-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_capacity_KernelIdeal [hPre_within_capacity_KernelIdeal : Cert.Pre_within_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_within_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_capacity_ReferenceIdeal [hPre_within_capacity_ReferenceIdeal : Cert.Pre_within_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_within_capacity_KernelIdeal [hKernelIdeal : Cert.KernelIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_within_capacity_ReferenceIdeal [hReferenceIdeal : Cert.ReferenceIdeal.Facts] [hPre_within_capacity_ReferenceIdeal : Cert.Pre_within_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_within_capacity_KernelIdeal [hKernelIdeal : Cert.KernelIdeal.Facts] [hReferenceIdeal : Cert.ReferenceIdeal.Facts] [hPre_within_capacity_KernelIdeal : Cert.Pre_within_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_capacity_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![4096, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_within_capacity_KernelIdeal : Cert.Pre_within_capacity_KernelIdeal.Facts) (hPre_within_capacity_ReferenceIdeal : Cert.Pre_within_capacity_ReferenceIdeal.Facts),
    quiescent_Kernel (hKernel := hKernel)
    ∧ quiescent_KernelIdeal (hKernelIdeal := hKernelIdeal)
    ∧ quiescent_KernelIdeal_pre_within_capacity_KernelIdeal (hKernelIdeal := hKernelIdeal) (hPre_within_capacity_KernelIdeal := hPre_within_capacity_KernelIdeal)
    ∧ quiescent_ReferenceIdeal (hReferenceIdeal := hReferenceIdeal)
    ∧ quiescent_ReferenceIdeal_pre_within_capacity_ReferenceIdeal (hReferenceIdeal := hReferenceIdeal) (hPre_within_capacity_ReferenceIdeal := hPre_within_capacity_ReferenceIdeal)
    ∧ preserves_Kernel_KernelIdeal
    ∧ algebraic_KernelIdeal_ReferenceIdeal_pre_within_capacity_KernelIdeal (hKernelIdeal := hKernelIdeal) (hReferenceIdeal := hReferenceIdeal) (hPre_within_capacity_KernelIdeal := hPre_within_capacity_KernelIdeal)
-- ==== Pre_within_capacity_KernelIdeal.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S1x16 : Shape := ⟨2, ![1, 16]⟩
abbrev S512x16 : Shape := ⟨2, ![512, 16]⟩
abbrev S_ : Shape := ⟨0, ![]⟩
abbrev S16 : Shape := ⟨1, ![16]⟩

class Facts : Prop where
  bcast_S512x1_S512x16_0_1 : S512x1.BroadcastsInDim S512x16 (![0, 1] : Fin 2 → Fin S512x16.rank)
  bcast_S1x16_S512x16_0_1 : S1x16.BroadcastsInDim S512x16 (![0, 1] : Fin 2 → Fin S512x16.rank)
  natLt_1_32 : 1 < 32
  reducesTo_S512x16_S16_d0 : S512x16.ReducesTo [0] S16
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S512x256 .bf16) (main_arg1 : FVec F S256x16 .bf16) (main_arg2 : IVec S512x1 32) (main_arg3 : FVec F S2x256x512 .bf16) (main_arg4 : FVec F S256x512 .bf16) : IVec S_ 1 :=
  let main_v0 : IVec S1x16 32 := iotaInDim S1x16 32 1
  let main_v1 : IVec S512x16 32 := broadcastInDim S512x16 ![0, 1] bcast_S512x1_S512x16_0_1 main_arg2
  let main_v2 : IVec S512x16 32 := broadcastInDim S512x16 ![0, 1] bcast_S1x16_S512x16_0_1 main_v0
  let main_v3 : IVec S512x16 1 := cmpi .eq main_v1 main_v2
  let main_v4 : IVec S512x16 32 := (extui 32 · natLt_1_32) main_v3
  let main_c : IVec S_ 32 := constantI S_ 32 0#32
  let main_v5 : IVec S16 32 := (fun x v => Host.reduce IntOp.addi x v reducesTo_S512x16_S16_d0 h_S_) main_v4 main_c
  let main_c_0 : IVec S_ 32 := constantI S_ 32 64#32
  let main_v6 : IVec S16 32 := broadcastInDim S16 ![] bcast_S_S16 main_c_0
  let main_v7 : IVec S16 1 := cmpi .sle main_v5 main_v6
  let main_c_1 : IVec S_ 1 := constantI S_ 1 1#1
  let main_v8 : IVec S_ 1 := (fun x v => Host.reduce IntOp.andi x v reducesTo_S16_S_d0 h_S_) main_v7 main_c_1
  main_v8
-- ==== Pre_within_capacity_ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S256x512 : Shape := ⟨2, ![256, 512]⟩
abbrev S1x16 : Shape := ⟨2, ![1, 16]⟩
abbrev S4096x16 : Shape := ⟨2, ![4096, 16]⟩
abbrev S_ : Shape := ⟨0, ![]⟩
abbrev S16 : Shape := ⟨1, ![16]⟩

class Facts : Prop where
  bcast_S4096x1_S4096x16_0_1 : S4096x1.BroadcastsInDim S4096x16 (![0, 1] : Fin 2 → Fin S4096x16.rank)
  bcast_S1x16_S4096x16_0_1 : S1x16.BroadcastsInDim S4096x16 (![0, 1] : Fin 2 → Fin S4096x16.rank)
  natLt_1_32 : 1 < 32
  reducesTo_S4096x16_S16_d0 : S4096x16.ReducesTo [0] S16
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S4096x256 .bf16) (main_arg1 : FVec F S256x16 .bf16) (main_arg2 : IVec S4096x1 32) (main_arg3 : FVec F S16x256x512 .bf16) (main_arg4 : FVec F S256x512 .bf16) : IVec S_ 1 :=
  let main_v0 : IVec S1x16 32 := iotaInDim S1x16 32 1
  let main_v1 : IVec S4096x16 32 := broadcastInDim S4096x16 ![0, 1] bcast_S4096x1_S4096x16_0_1 main_arg2
  let main_v2 : IVec S4096x16 32 := broadcastInDim S4096x16 ![0, 1] bcast_S1x16_S4096x16_0_1 main_v0
  let main_v3 : IVec S4096x16 1 := cmpi .eq main_v1 main_v2
  let main_v4 : IVec S4096x16 32 := (extui 32 · natLt_1_32) main_v3
  let main_c : IVec S_ 32 := constantI S_ 32 0#32
  let main_v5 : IVec S16 32 := (fun x v => Host.reduce IntOp.addi x v reducesTo_S4096x16_S16_d0 h_S_) main_v4 main_c
  let main_c_0 : IVec S_ 32 := constantI S_ 32 64#32
  let main_v6 : IVec S16 32 := broadcastInDim S16 ![] bcast_S_S16 main_c_0
  let main_v7 : IVec S16 1 := cmpi .sle main_v5 main_v6
  let main_c_1 : IVec S_ 1 := constantI S_ 1 1#1
  let main_v8 : IVec S_ 1 := (fun x v => Host.reduce IntOp.andi x v reducesTo_S16_S_d0 h_S_) main_v7 main_c_1
  main_v8
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S8x128x256 : Shape := ⟨3, ![8, 128, 256]⟩
abbrev S8x128x512 : Shape := ⟨3, ![8, 128, 512]⟩
abbrev S8x128x1 : Shape := ⟨3, ![8, 128, 1]⟩
abbrev S8 : Shape := ⟨1, ![8]⟩
abbrev S_ : Shape := ⟨0, ![]⟩
abbrev S512x16 : Shape := ⟨2, ![512, 16]⟩
abbrev S512 : Shape := ⟨1, ![512]⟩
abbrev S1x16 : Shape := ⟨2, ![1, 16]⟩
abbrev S1x128 : Shape := ⟨2, ![1, 128]⟩
abbrev S16x128 : Shape := ⟨2, ![16, 128]⟩
abbrev S512x128 : Shape := ⟨2, ![512, 128]⟩
abbrev S128x256 : Shape := ⟨2, ![128, 256]⟩
abbrev S1x128x256 : Shape := ⟨3, ![1, 128, 256]⟩
abbrev S1 : Shape := ⟨1, ![1]⟩
abbrev S1x256x512 : Shape := ⟨3, ![1, 256, 512]⟩
abbrev S128x1 : Shape := ⟨2, ![128, 1]⟩
abbrev S128x512 : Shape := ⟨2, ![128, 512]⟩
abbrev S128 : Shape := ⟨1, ![128]⟩
abbrev S1x128x512 : Shape := ⟨3, ![1, 128, 512]⟩
abbrev S1x128x1 : Shape := ⟨3, ![1, 128, 1]⟩

abbrev nBuf : Space → Nat
  | .hbm => 6
  | .vmem => 12
  | .smem => 0
  | _ => 0

abbrev bufTy : (tb : Table) → Fin (tcTables nBuf tb) → BufTy
  | .hbm, ⟨0, _⟩ => ⟨S512x256, .bf16⟩
  | .hbm, ⟨1, _⟩ => ⟨S256x16, .bf16⟩
  | .hbm, ⟨2, _⟩ => ⟨S512x1, .i32⟩
  | .hbm, ⟨3, _⟩ => ⟨S2x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x16, .bf16⟩
  | .local _ .vmem, ⟨2, _⟩ => ⟨S512x1, .i32⟩
  | .local _ .vmem, ⟨3, _⟩ => ⟨S2x256x512, .bf16⟩
  | .local _ .vmem, ⟨4, _⟩ => ⟨S256x512, .bf16⟩
  | .local _ .vmem, ⟨5, _⟩ => ⟨S512x512, .f32⟩
  | .local _ .vmem, ⟨6, _⟩ => ⟨S8x128x256, .bf16⟩
  | .local _ .vmem, ⟨7, _⟩ => ⟨S8x128x256, .bf16⟩
  | .local _ .vmem, ⟨8, _⟩ => ⟨S8x128x512, .i8⟩
  | .local _ .vmem, ⟨9, _⟩ => ⟨S8x128x512, .i8⟩
  | .local _ .vmem, ⟨10, _⟩ => ⟨S8x128x1, .f32⟩
  | .local _ .vmem, ⟨11, _⟩ => ⟨S8x128x1, .f32⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_88 : BitVec 32 := 0#32
  let v292 : BitVec 1 := Scalar.cmpi .ne v2 c0_i32_88
  let v293 : BitVec 32 := Scalar.extui v292
  let c0_i32_89 : BitVec 32 := 0#32
  let v294 : BitVec 1 := Scalar.cmpi .ne v293 c0_i32_89
  v294

def k0_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev8 : Nat :=
  let c0_i32_392 : BitVec 32 := 0#32
  let c0_i32_390 : BitVec 32 := 0#32
  let c1_i32_391 : BitVec 32 := 1#32
  let v759 : BitVec 32 := Scalar.muli c0_i32_390 c1_i32_391
  let v760 : BitVec 32 := Scalar.addi c0_i32_392 v759
  v760.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_92 : BitVec 32 := 1#32
  let v298 : BitVec 1 := Scalar.cmpi .ne v2 c1_i32_92
  let v299 : BitVec 32 := Scalar.extui v298
  let c0_i32_93 : BitVec 32 := 0#32
  let v300 : BitVec 1 := Scalar.cmpi .ne v299 c0_i32_93
  v300

def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev9 : Nat :=
  let c0_i32_392 : BitVec 32 := 0#32
  let c1_i32_390 : BitVec 32 := 1#32
  let c1_i32_391 : BitVec 32 := 1#32
  let v759 : BitVec 32 := Scalar.muli c1_i32_390 c1_i32_391
  let v760 : BitVec 32 := Scalar.addi c0_i32_392 v759
  v760.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_96 : BitVec 32 := 2#32
  let v304 : BitVec 1 := Scalar.cmpi .ne v2 c2_i32_96
  let v305 : BitVec 32 := Scalar.extui v304
  let c0_i32_97 : BitVec 32 := 0#32
  let v306 : BitVec 1 := Scalar.cmpi .ne v305 c0_i32_97
  v306

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev10 : Nat :=
  let c0_i32_392 : BitVec 32 := 0#32
  let c2_i32_390 : BitVec 32 := 2#32
  let c1_i32_391 : BitVec 32 := 1#32
  let v759 : BitVec 32 := Scalar.muli c2_i32_390 c1_i32_391
  let v760 : BitVec 32 := Scalar.addi c0_i32_392 v759
  v760.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_100 : BitVec 32 := 3#32
  let v310 : BitVec 1 := Scalar.cmpi .ne v2 c3_i32_100
  let v311 : BitVec 32 := Scalar.extui v310
  let c0_i32_101 : BitVec 32 := 0#32
  let v312 : BitVec 1 := Scalar.cmpi .ne v311 c0_i32_101
  v312

def k0_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev11 : Nat :=
  let c0_i32_392 : BitVec 32 := 0#32
  let c3_i32_390 : BitVec 32 := 3#32
  let c1_i32_391 : BitVec 32 := 1#32
  let v759 : BitVec 32 := Scalar.muli c3_i32_390 c1_i32_391
  let v760 : BitVec 32 := Scalar.addi c0_i32_392 v759
  v760.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_104 : BitVec 32 := 4#32
  let v316 : BitVec 1 := Scalar.cmpi .ne v2 c4_i32_104
  let v317 : BitVec 32 := Scalar.extui v316
  let c0_i32_105 : BitVec 32 := 0#32
  let v318 : BitVec 1 := Scalar.cmpi .ne v317 c0_i32_105
  v318

def k0_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev12 : Nat :=
  let c0_i32_392 : BitVec 32 := 0#32
  let c4_i32_390 : BitVec 32 := 4#32
  let c1_i32_391 : BitVec 32 := 1#32
  let v759 : BitVec 32 := Scalar.muli c4_i32_390 c1_i32_391
  let v760 : BitVec 32 := Scalar.addi c0_i32_392 v759
  v760.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_108 : BitVec 32 := 5#32
  let v322 : BitVec 1 := Scalar.cmpi .ne v2 c5_i32_108
  let v323 : BitVec 32 := Scalar.extui v322
  let c0_i32_109 : BitVec 32 := 0#32
  let v324 : BitVec 1 := Scalar.cmpi .ne v323 c0_i32_109
  v324

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev13 : Nat :=
  let c0_i32_392 : BitVec 32 := 0#32
  let c5_i32_390 : BitVec 32 := 5#32
  let c1_i32_391 : BitVec 32 := 1#32
  let v759 : BitVec 32 := Scalar.muli c5_i32_390 c1_i32_391
  let v760 : BitVec 32 := Scalar.addi c0_i32_392 v759
  v760.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_112 : BitVec 32 := 6#32
  let v328 : BitVec 1 := Scalar.cmpi .ne v2 c6_i32_112
  let v329 : BitVec 32 := Scalar.extui v328
  let c0_i32_113 : BitVec 32 := 0#32
  let v330 : BitVec 1 := Scalar.cmpi .ne v329 c0_i32_113
  v330

def k0_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev14 : Nat :=
  let c0_i32_392 : BitVec 32 := 0#32
  let c6_i32_390 : BitVec 32 := 6#32
  let c1_i32_391 : BitVec 32 := 1#32
  let v759 : BitVec 32 := Scalar.muli c6_i32_390 c1_i32_391
  let v760 : BitVec 32 := Scalar.addi c0_i32_392 v759
  v760.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_116 : BitVec 32 := 7#32
  let v334 : BitVec 1 := Scalar.cmpi .ne v2 c7_i32_116
  let v335 : BitVec 32 := Scalar.extui v334
  let c0_i32_117 : BitVec 32 := 0#32
  let v336 : BitVec 1 := Scalar.cmpi .ne v335 c0_i32_117
  v336

def k0_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev15 : Nat :=
  let c0_i32_392 : BitVec 32 := 0#32
  let c7_i32_390 : BitVec 32 := 7#32
  let c1_i32_391 : BitVec 32 := 1#32
  let v759 : BitVec 32 := Scalar.muli c7_i32_390 c1_i32_391
  let v760 : BitVec 32 := Scalar.addi c0_i32_392 v759
  v760.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_147 : BitVec 32 := 0#32
  let v379 : BitVec 1 := Scalar.cmpi .ne v2 c0_i32_147
  let v380 : BitVec 32 := Scalar.extui v379
  let c0_i32_148 : BitVec 32 := 0#32
  let v381 : BitVec 1 := Scalar.cmpi .ne v380 c0_i32_148
  v381

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev16 : Nat :=
  let c0_i32_392 : BitVec 32 := 0#32
  let c0_i32_390 : BitVec 32 := 0#32
  let c1_i32_391 : BitVec 32 := 1#32
  let v759 : BitVec 32 := Scalar.muli c0_i32_390 c1_i32_391
  let v760 : BitVec 32 := Scalar.addi c0_i32_392 v759
  v760.toNat
def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_dev17 : Nat :=
  let c0_i32_401 : BitVec 32 := 0#32
  let c0_i32_399 : BitVec 32 := 0#32
  let c1_i32_400 : BitVec 32 := 1#32
  let v769 : BitVec 32 := Scalar.muli c0_i32_399 c1_i32_400
  let v770 : BitVec 32 := Scalar.addi c0_i32_401 v769
  v770.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_168 : BitVec 32 := 1#32
  let v414 : BitVec 1 := Scalar.cmpi .ne v2 c1_i32_168
  let v415 : BitVec 32 := Scalar.extui v414
  let c0_i32_169 : BitVec 32 := 0#32
  let v416 : BitVec 1 := Scalar.cmpi .ne v415 c0_i32_169
  v416

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev18 : Nat :=
  let c0_i32_392 : BitVec 32 := 0#32
  let c1_i32_390 : BitVec 32 := 1#32
  let c1_i32_391 : BitVec 32 := 1#32
  let v759 : BitVec 32 := Scalar.muli c1_i32_390 c1_i32_391
  let v760 : BitVec 32 := Scalar.addi c0_i32_392 v759
  v760.toNat
def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_dev19 : Nat :=
  let c0_i32_401 : BitVec 32 := 0#32
  let c1_i32_399 : BitVec 32 := 1#32
  let c1_i32_400 : BitVec 32 := 1#32
  let v769 : BitVec 32 := Scalar.muli c1_i32_399 c1_i32_400
  let v770 : BitVec 32 := Scalar.addi c0_i32_401 v769
  v770.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_189 : BitVec 32 := 2#32
  let v449 : BitVec 1 := Scalar.cmpi .ne v2 c2_i32_189
  let v450 : BitVec 32 := Scalar.extui v449
  let c0_i32_190 : BitVec 32 := 0#32
  let v451 : BitVec 1 := Scalar.cmpi .ne v450 c0_i32_190
  v451

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev20 : Nat :=
  let c0_i32_392 : BitVec 32 := 0#32
  let c2_i32_390 : BitVec 32 := 2#32
  let c1_i32_391 : BitVec 32 := 1#32
  let v759 : BitVec 32 := Scalar.muli c2_i32_390 c1_i32_391
  let v760 : BitVec 32 := Scalar.addi c0_i32_392 v759
  v760.toNat
def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_dev21 : Nat :=
  let c0_i32_401 : BitVec 32 := 0#32
  let c2_i32_399 : BitVec 32 := 2#32
  let c1_i32_400 : BitVec 32 := 1#32
  let v769 : BitVec 32 := Scalar.muli c2_i32_399 c1_i32_400
  let v770 : BitVec 32 := Scalar.addi c0_i32_401 v769
  v770.toNat
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_210 : BitVec 32 := 3#32
  let v484 : BitVec 1 := Scalar.cmpi .ne v2 c3_i32_210
  let v485 : BitVec 32 := Scalar.extui v484
  let c0_i32_211 : BitVec 32 := 0#32
  let v486 : BitVec 1 := Scalar.cmpi .ne v485 c0_i32_211
  v486

def k0_off26 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev22 : Nat :=
  let c0_i32_392 : BitVec 32 := 0#32
  let c3_i32_390 : BitVec 32 := 3#32
  let c1_i32_391 : BitVec 32 := 1#32
  let v759 : BitVec 32 := Scalar.muli c3_i32_390 c1_i32_391
  let v760 : BitVec 32 := Scalar.addi c0_i32_392 v759
  v760.toNat
def k0_off28 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_dev23 : Nat :=
  let c0_i32_401 : BitVec 32 := 0#32
  let c3_i32_399 : BitVec 32 := 3#32
  let c1_i32_400 : BitVec 32 := 1#32
  let v769 : BitVec 32 := Scalar.muli c3_i32_399 c1_i32_400
  let v770 : BitVec 32 := Scalar.addi c0_i32_401 v769
  v770.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_231 : BitVec 32 := 4#32
  let v519 : BitVec 1 := Scalar.cmpi .ne v2 c4_i32_231
  let v520 : BitVec 32 := Scalar.extui v519
  let c0_i32_232 : BitVec 32 := 0#32
  let v521 : BitVec 1 := Scalar.cmpi .ne v520 c0_i32_232
  v521

def k0_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev24 : Nat :=
  let c0_i32_392 : BitVec 32 := 0#32
  let c4_i32_390 : BitVec 32 := 4#32
  let c1_i32_391 : BitVec 32 := 1#32
  let v759 : BitVec 32 := Scalar.muli c4_i32_390 c1_i32_391
  let v760 : BitVec 32 := Scalar.addi c0_i32_392 v759
  v760.toNat
def k0_off31 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_dev25 : Nat :=
  let c0_i32_401 : BitVec 32 := 0#32
  let c4_i32_399 : BitVec 32 := 4#32
  let c1_i32_400 : BitVec 32 := 1#32
  let v769 : BitVec 32 := Scalar.muli c4_i32_399 c1_i32_400
  let v770 : BitVec 32 := Scalar.addi c0_i32_401 v769
  v770.toNat
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_252 : BitVec 32 := 5#32
  let v554 : BitVec 1 := Scalar.cmpi .ne v2 c5_i32_252
  let v555 : BitVec 32 := Scalar.extui v554
  let c0_i32_253 : BitVec 32 := 0#32
  let v556 : BitVec 1 := Scalar.cmpi .ne v555 c0_i32_253
  v556

def k0_off32 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev26 : Nat :=
  let c0_i32_392 : BitVec 32 := 0#32
  let c5_i32_390 : BitVec 32 := 5#32
  let c1_i32_391 : BitVec 32 := 1#32
  let v759 : BitVec 32 := Scalar.muli c5_i32_390 c1_i32_391
  let v760 : BitVec 32 := Scalar.addi c0_i32_392 v759
  v760.toNat
def k0_off34 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_dev27 : Nat :=
  let c0_i32_401 : BitVec 32 := 0#32
  let c5_i32_399 : BitVec 32 := 5#32
  let c1_i32_400 : BitVec 32 := 1#32
  let v769 : BitVec 32 := Scalar.muli c5_i32_399 c1_i32_400
  let v770 : BitVec 32 := Scalar.addi c0_i32_401 v769
  v770.toNat
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_273 : BitVec 32 := 6#32
  let v589 : BitVec 1 := Scalar.cmpi .ne v2 c6_i32_273
  let v590 : BitVec 32 := Scalar.extui v589
  let c0_i32_274 : BitVec 32 := 0#32
  let v591 : BitVec 1 := Scalar.cmpi .ne v590 c0_i32_274
  v591

def k0_off35 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev28 : Nat :=
  let c0_i32_392 : BitVec 32 := 0#32
  let c6_i32_390 : BitVec 32 := 6#32
  let c1_i32_391 : BitVec 32 := 1#32
  let v759 : BitVec 32 := Scalar.muli c6_i32_390 c1_i32_391
  let v760 : BitVec 32 := Scalar.addi c0_i32_392 v759
  v760.toNat
def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_dev29 : Nat :=
  let c0_i32_401 : BitVec 32 := 0#32
  let c6_i32_399 : BitVec 32 := 6#32
  let c1_i32_400 : BitVec 32 := 1#32
  let v769 : BitVec 32 := Scalar.muli c6_i32_399 c1_i32_400
  let v770 : BitVec 32 := Scalar.addi c0_i32_401 v769
  v770.toNat
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_294 : BitVec 32 := 7#32
  let v624 : BitVec 1 := Scalar.cmpi .ne v2 c7_i32_294
  let v625 : BitVec 32 := Scalar.extui v624
  let c0_i32_295 : BitVec 32 := 0#32
  let v626 : BitVec 1 := Scalar.cmpi .ne v625 c0_i32_295
  v626

def k0_off38 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_393 : BitVec 32 := 0#32
  let c0_i32_394 : BitVec 32 := 0#32
  ![v2.toNat, 0, 0]
def k0_dev30 : Nat :=
  let c0_i32_392 : BitVec 32 := 0#32
  let c7_i32_390 : BitVec 32 := 7#32
  let c1_i32_391 : BitVec 32 := 1#32
  let v759 : BitVec 32 := Scalar.muli c7_i32_390 c1_i32_391
  let v760 : BitVec 32 := Scalar.addi c0_i32_392 v759
  v760.toNat
def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_dev31 : Nat :=
  let c0_i32_401 : BitVec 32 := 0#32
  let c7_i32_399 : BitVec 32 := 7#32
  let c1_i32_400 : BitVec 32 := 1#32
  let v769 : BitVec 32 := Scalar.muli c7_i32_399 c1_i32_400
  let v770 : BitVec 32 := Scalar.addi c0_i32_401 v769
  v770.toNat
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_372 : BitVec 32 := 0#32
  let v735 : BitVec 1 := Scalar.cmpi .ne v2 c0_i32_372
  let v736 : BitVec 32 := Scalar.extui v735
  let c0_i32_373 : BitVec 32 := 0#32
  let v737 : BitVec 1 := Scalar.cmpi .ne v736 c0_i32_373
  v737

def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_394 : BitVec 32 := 0#32
  let c0_i32_395 : BitVec 32 := 0#32
  ![v2.toNat, 0, 0]
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_410 : BitVec 32 := 0#32
  let c0_i32_411 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_374 : BitVec 32 := 1#32
  let v738 : BitVec 1 := Scalar.cmpi .ne v2 c1_i32_374
  let v739 : BitVec 32 := Scalar.extui v738
  let c0_i32_375 : BitVec 32 := 0#32
  let v740 : BitVec 1 := Scalar.cmpi .ne v739 c0_i32_375
  v740

def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_394 : BitVec 32 := 0#32
  let c0_i32_395 : BitVec 32 := 0#32
  ![v2.toNat, 0, 0]
def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_410 : BitVec 32 := 0#32
  let c0_i32_411 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_376 : BitVec 32 := 2#32
  let v741 : BitVec 1 := Scalar.cmpi .ne v2 c2_i32_376
  let v742 : BitVec 32 := Scalar.extui v741
  let c0_i32_377 : BitVec 32 := 0#32
  let v743 : BitVec 1 := Scalar.cmpi .ne v742 c0_i32_377
  v743

def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_394 : BitVec 32 := 0#32
  let c0_i32_395 : BitVec 32 := 0#32
  ![v2.toNat, 0, 0]
def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_410 : BitVec 32 := 0#32
  let c0_i32_411 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_378 : BitVec 32 := 3#32
  let v744 : BitVec 1 := Scalar.cmpi .ne v2 c3_i32_378
  let v745 : BitVec 32 := Scalar.extui v744
  let c0_i32_379 : BitVec 32 := 0#32
  let v746 : BitVec 1 := Scalar.cmpi .ne v745 c0_i32_379
  v746

def k0_off50 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_394 : BitVec 32 := 0#32
  let c0_i32_395 : BitVec 32 := 0#32
  ![v2.toNat, 0, 0]
def k0_off51 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_off52 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_410 : BitVec 32 := 0#32
  let c0_i32_411 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_380 : BitVec 32 := 4#32
  let v747 : BitVec 1 := Scalar.cmpi .ne v2 c4_i32_380
  let v748 : BitVec 32 := Scalar.extui v747
  let c0_i32_381 : BitVec 32 := 0#32
  let v749 : BitVec 1 := Scalar.cmpi .ne v748 c0_i32_381
  v749

def k0_off53 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_394 : BitVec 32 := 0#32
  let c0_i32_395 : BitVec 32 := 0#32
  ![v2.toNat, 0, 0]
def k0_off54 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_off55 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_410 : BitVec 32 := 0#32
  let c0_i32_411 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_382 : BitVec 32 := 5#32
  let v750 : BitVec 1 := Scalar.cmpi .ne v2 c5_i32_382
  let v751 : BitVec 32 := Scalar.extui v750
  let c0_i32_383 : BitVec 32 := 0#32
  let v752 : BitVec 1 := Scalar.cmpi .ne v751 c0_i32_383
  v752

def k0_off56 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_394 : BitVec 32 := 0#32
  let c0_i32_395 : BitVec 32 := 0#32
  ![v2.toNat, 0, 0]
def k0_off57 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_off58 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_410 : BitVec 32 := 0#32
  let c0_i32_411 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_384 : BitVec 32 := 6#32
  let v753 : BitVec 1 := Scalar.cmpi .ne v2 c6_i32_384
  let v754 : BitVec 32 := Scalar.extui v753
  let c0_i32_385 : BitVec 32 := 0#32
  let v755 : BitVec 1 := Scalar.cmpi .ne v754 c0_i32_385
  v755

def k0_off59 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_394 : BitVec 32 := 0#32
  let c0_i32_395 : BitVec 32 := 0#32
  ![v2.toNat, 0, 0]
def k0_off60 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_off61 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_410 : BitVec 32 := 0#32
  let c0_i32_411 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_386 : BitVec 32 := 7#32
  let v756 : BitVec 1 := Scalar.cmpi .ne v2 c7_i32_386
  let v757 : BitVec 32 := Scalar.extui v756
  let c0_i32_387 : BitVec 32 := 0#32
  let v758 : BitVec 1 := Scalar.cmpi .ne v757 c0_i32_387
  v758

def k0_off62 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_394 : BitVec 32 := 0#32
  let c0_i32_395 : BitVec 32 := 0#32
  ![v2.toNat, 0, 0]
def k0_off63 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_402 : BitVec 32 := 0#32
  let c0_i32_403 : BitVec 32 := 0#32
  ![v2.toNat, 0, 0]
def k0_off64 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_410 : BitVec 32 := 0#32
  let c0_i32_411 : BitVec 32 := 0#32
  ![v2.toNat, 0, 0]
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S256x512 : Shape := ⟨2, ![256, 512]⟩
abbrev S4096x16 : Shape := ⟨2, ![4096, 16]⟩
abbrev S_ : Shape := ⟨0, ![]⟩
abbrev S4096 : Shape := ⟨1, ![4096]⟩
abbrev S1x16 : Shape := ⟨2, ![1, 16]⟩
abbrev S16x512x4096 : Shape := ⟨3, ![16, 512, 4096]⟩
abbrev S16x4096x512 : Shape := ⟨3, ![16, 4096, 512]⟩
abbrev S16x4096 : Shape := ⟨2, ![16, 4096]⟩
abbrev S16x4096x1 : Shape := ⟨3, ![16, 4096, 1]⟩
abbrev S4096x512 : Shape := ⟨2, ![4096, 512]⟩

abbrev nBuf : Space → Nat
  | .hbm => 57
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x16, .bf16⟩
  | .hbm, ⟨2, _⟩ => ⟨S4096x1, .i32⟩
  | .hbm, ⟨3, _⟩ => ⟨S16x256x512, .bf16⟩
  | .hbm, ⟨4, _⟩ => ⟨S256x512, .bf16⟩
  | .hbm, ⟨5, _⟩ => ⟨S4096x256, .f32⟩
  | .hbm, ⟨6, _⟩ => ⟨S256x16, .f32⟩
  | .hbm, ⟨7, _⟩ => ⟨S4096x16, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x16, .f32⟩
  | .hbm, ⟨12, _⟩ => ⟨S4096x16, .f32⟩
  | .hbm, ⟨13, _⟩ => ⟨S4096x16, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x16, .f32⟩
  | .hbm, ⟨18, _⟩ => ⟨S4096x16, .f32⟩
  | .hbm, ⟨19, _⟩ => ⟨S1x16, .i32⟩
  | .hbm, ⟨20, _⟩ => ⟨S4096x16, .i32⟩
  | .hbm, ⟨21, _⟩ => ⟨S4096x16, .i32⟩
  | .hbm, ⟨22, _⟩ => ⟨S4096x16, .i1⟩
  | .hbm, ⟨23, _⟩ => ⟨S_, .f32⟩
  | .hbm, ⟨24, _⟩ => ⟨S_, .f32⟩
  | .hbm, ⟨25, _⟩ => ⟨S4096x16, .f32⟩
  | .hbm, ⟨26, _⟩ => ⟨S4096x16, .f32⟩
  | .hbm, ⟨27, _⟩ => ⟨S16x256x512, .f32⟩
  | .hbm, ⟨28, _⟩ => ⟨S16x512x4096, .f32⟩
  | .hbm, ⟨29, _⟩ => ⟨S16x4096x512, .f32⟩
  | .hbm, ⟨30, _⟩ => ⟨S16x4096, .f32⟩
  | .hbm, ⟨31, _⟩ => ⟨S16x4096x1, .f32⟩
  | .hbm, ⟨32, _⟩ => ⟨S16x4096x512, .f32⟩
  | .hbm, ⟨33, _⟩ => ⟨S16x4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S256x512, .f32⟩
  | .hbm, ⟨50, _⟩ => ⟨S4096x512, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x512, .f32⟩
  | .hbm, ⟨55, _⟩ => ⟨S4096x512, .f32⟩
  | .hbm, ⟨56, _⟩ => ⟨S4096x512, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.Slots.lean ====
/- The three exchange buffers are arrays of eight slots, one per device: the slot `d` of an array `[8, n, k]` is the part whose
   first index is `d`. What a slot is, that the slots are the array, and what is read or written through one. -/
module

public import proofs.«01_k».proof.Proof.Gen.KernelIdeal
public import proofs.«01_k».proof.Proof.Gen.KernelIdeal.Skeleton
public import Idealize.ShloMosaic.Lib.Pipeline.Value
public import Idealize.ShloMosaic.Lib.Ring

@[expose] public section

noncomputable section

namespace Cert.MoE

open Idealize.ShloMosaic

abbrev S3 (n k : ℕ) : Shape := ⟨3, ![8, n, k]⟩
abbrev T3 (n k : ℕ) : Shape := ⟨3, ![1, n, k]⟩

set_option backward.proofsInPublic true in
theorem slot_inb (n k : ℕ) (d : Fin 8) : ∀ a, (![d.val, 0, 0] : Fin 3 → ℕ) a + (T3 n k).size a ≤ (S3 n k).size a := by
  intro a
  have := d.isLt
  fin_cases a
  · show d.val + 1 ≤ 8; omega
  · show 0 + n ≤ n; omega
  · show 0 + k ≤ k; omega

/-- The slot `d`. -/
abbrev slotR (n k : ℕ) (d : Fin 8) : Rect (S3 n k) := Rect.unit (s := S3 n k) ![d.val, 0, 0] (T3 n k).size (slot_inb n k d)

variable {n k : ℕ}

/-- The slot an index of the array is in; -/
abbrev slotOf (i : (S3 n k).Idx) : Fin 8 := i (0 : Fin 3)
/-- its place in its slot; -/
def low (i : (S3 n k).Idx) : (T3 n k).Idx := fun a => match a with
  | ⟨0, _⟩ => (⟨0, Nat.one_pos⟩ : Fin 1)
  | ⟨1, _⟩ => i (1 : Fin 3)
  | ⟨2, _⟩ => i (2 : Fin 3)
/-- and the same place in the slot `d`. -/
def move (i : (S3 n k).Idx) (d : Fin 8) : (S3 n k).Idx := fun a => match a with
  | ⟨0, _⟩ => d
  | ⟨1, _⟩ => i (1 : Fin 3)
  | ⟨2, _⟩ => i (2 : Fin 3)

theorem mem_slot (d : Fin 8) (i : (S3 n k).Idx) : i ∈ (slotR n k d).set ↔ slotOf i = d := by
  rw [Rect.mem_set_unit]
  constructor
  · intro h
    obtain ⟨h1, h2⟩ := h (0 : Fin 3)
    have h1' : d.val ≤ (i (0 : Fin 3)).val := h1
    have h2' : (i (0 : Fin 3)).val < d.val + 1 := h2
    exact Fin.ext (show (i (0 : Fin 3)).val = d.val by omega)
  · rintro rfl a
    match a with
    | ⟨0, _⟩ => exact ⟨Nat.le_refl _, Nat.lt_succ_self _⟩
    | ⟨1, _⟩ => exact ⟨Nat.zero_le _, by have := (i (1 : Fin 3)).isLt; show (i (1 : Fin 3)).val < 0 + n; rw [Nat.zero_add]; exact this⟩
    | ⟨2, _⟩ => exact ⟨Nat.zero_le _, by have := (i (2 : Fin 3)).isLt; show (i (2 : Fin 3)).val < 0 + k; rw [Nat.zero_add]; exact this⟩

theorem slot_disjoint (d d' : Fin 8) (h : d ≠ d') : Disjoint (slotR n k d).set (slotR n k d').set :=
  Finset.disjoint_left.mpr fun i hi hi' => h (((mem_slot d i).mp hi).symm.trans ((mem_slot d' i).mp hi'))

theorem slot_cover : (Finset.univ : Finset (Fin 8)).biUnion (fun d => (slotR n k d).set) = Finset.univ :=
  Finset.eq_univ_iff_forall.mpr fun i => Finset.mem_biUnion.mpr ⟨slotOf i, Finset.mem_univ _, (mem_slot _ i).mpr rfl⟩

theorem slotOf_emb (d : Fin 8) (y : (T3 n k).Idx) : slotOf ((slotR n k d).emb y) = d := by
  refine Fin.ext ?_
  have hy : (y (0 : Fin 3)).val < 1 := (y (0 : Fin 3)).isLt
  show d.val + 1 * (y (0 : Fin 3)).val = d.val
  omega

theorem low_emb (d : Fin 8) (y : (T3 n k).Idx) : low ((slotR n k d).emb y) = y := by
  funext a
  refine Fin.ext ?_
  match a with
  | ⟨0, _⟩ => have hy : (y (0 : Fin 3)).val < 1 := (y (0 : Fin 3)).isLt; show 0 = (y (0 : Fin 3)).val; omega
  | ⟨1, _⟩ => show 0 + 1 * (y (1 : Fin 3)).val = (y (1 : Fin 3)).val; omega
  | ⟨2, _⟩ => show 0 + 1 * (y (2 : Fin 3)).val = (y (2 : Fin 3)).val; omega

theorem move_emb (c d : Fin 8) (y : (T3 n k).Idx) : move ((slotR n k c).emb y) d = (slotR n k d).emb y := by
  funext a
  refine Fin.ext ?_
  match a with
  | ⟨0, _⟩ => have hy : (y (0 : Fin 3)).val < 1 := (y (0 : Fin 3)).isLt; show d.val = d.val + 1 * (y (0 : Fin 3)).val; omega
  | ⟨1, _⟩ => show 0 + 1 * (y (1 : Fin 3)).val = 0 + 1 * (y (1 : Fin 3)).val; rfl
  | ⟨2, _⟩ => show 0 + 1 * (y (2 : Fin 3)).val = 0 + 1 * (y (2 : Fin 3)).val; rfl

/-- The array whose slot `d` is the block `P d`. -/
def fill {α : Type} (P : Fin 8 → (T3 n k).Idx → α) : (S3 n k).Idx → α := fun i => P (slotOf i) (low i)
/-- What an all-to-all exchange leaves on the device `d`: the slot `s` is the slot `d` of the device `s`'s array. -/
def exch {α : Type} (X : Fin 8 → (S3 n k).Idx → α) (d : Fin 8) : (S3 n k).Idx → α := fun i => X (slotOf i) (move i d)

theorem fill_emb {α : Type} (P : Fin 8 → (T3 n k).Idx → α) (d : Fin 8) (y : (T3 n k).Idx) : fill P ((slotR n k d).emb y) = P d y := by
  unfold fill; rw [slotOf_emb, low_emb]
theorem exch_emb {α : Type} (X : Fin 8 → (S3 n k).Idx → α) (d s : Fin 8) (y : (T3 n k).Idx) :
    exch X d ((slotR n k s).emb y) = X s ((slotR n k d).emb y) := by
  unfold exch; rw [slotOf_emb, move_emb]

/-- Contents that read through a view as `w` are, on the view's elements, what writing `w` through it leaves. -/
theorem write_eq_of_read {sig : RefSig} {κ : Kind} {sp : Space} {s : Shape} {e : EltTy} {Val : EltTy → Type} (v : View sig κ sp s e)
    (f g : v.ty.Contents Val) (w : s.Idx → Val e) (h : v.read Val g = w) : ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

end Cert.MoE
-- ==== Proof.Contents.lean ====
/- What the buffers of the kernel hold on each device, as functions of the arguments at launch: the staged arguments, the rows
   dispatched to each device, the rows received, the quantised results and their scales, what comes back, and the result. -/
module

public import proofs.«01_k».proof.Proof.Slots
public import proofs.«01_k».proof.Proof.Gen.KernelIdeal.Launch

@[expose] public section

noncomputable section

namespace Cert.MoE

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The staged arguments of device `c` -/

def xS (c : Dev nD) : Vec F S512x256 .bf16 := (win0_0.blk (0 : Fin 1)).view.read (Elt F) (m ((c : Thread nD τ).loc main_arg0))
def rwS (c : Dev nD) : Vec F S256x16 .bf16 := (win0_1.blk (0 : Fin 1)).view.read (Elt F) (m ((c : Thread nD τ).loc main_arg1))
def rtS (c : Dev nD) : Vec F S512x1 .i32 := (win0_2.blk (0 : Fin 1)).view.read (Elt F) (m ((c : Thread nD τ).loc main_arg2))
def ewS (c : Dev nD) : Vec F S2x256x512 .bf16 := (win0_3.blk (0 : Fin 1)).view.read (Elt F) (m ((c : Thread nD τ).loc main_arg3))
def swS (c : Dev nD) : Vec F S256x512 .bf16 := (win0_4.blk (0 : Fin 1)).view.read (Elt F) (m ((c : Thread nD τ).loc main_arg4))

/-! ## The values the body carries, under the printed names -/

def v33 (c : Dev nD) : FVec F S512x256 .bf16 := k0_pay1 (xS m c)
def v35 (c : Dev nD) : IVec S512x1 32 := k0_pay2 (F := F) (rtS m c)
def v53 (c : Dev nD) : FVec F S512x16 .f32 := k0_pay3 (rtS m c)
def v60 (c : Dev nD) : FVec F S512x256 .bf16 := k0_pay4 (xS m c) (rtS m c) (rwS m c)
def v66 (c : Dev nD) : FVec F S512x16 .f32 := k0_pay6 (v53 m c) k0_pay5

/-- The rows device `c` dispatches to device `d`. -/
def aPay (c : Dev nD) : Fin 8 → Vec F S1x128x256 .bf16
  | 0 => k0_pay11 (v35 m c) (v60 m c) (v66 m c) k0_pay8 k0_pay9
  | 1 => k0_pay13 (v35 m c) (v60 m c) (v66 m c) k0_pay7 k0_pay8
  | 2 => k0_pay16 (v35 m c) (v60 m c) (v66 m c) k0_pay8 (k0_pay14 k0_pay7)
  | 3 => k0_pay18 (v35 m c) (v60 m c) (v66 m c) k0_pay7 k0_pay8
  | 4 => k0_pay21 (v35 m c) (v60 m c) (v66 m c) k0_pay8 (k0_pay19 k0_pay7)
  | 5 => k0_pay23 (v35 m c) (v60 m c) (v66 m c) k0_pay7 k0_pay8
  | 6 => k0_pay26 (v35 m c) (v60 m c) (v66 m c) k0_pay8 (k0_pay24 k0_pay7)
  | 7 => k0_pay28 (v35 m c) (v60 m c) (v66 m c) k0_pay7 k0_pay8

/-- Which slot of device `d`'s rows each token of device `c` fills: a column of it has a one at the token whose row it holds. -/
def ddPay (c : Dev nD) : Fin 8 → FVec F S512x128 .bf16
  | 0 => k0_pay10 (v35 m c) (v66 m c) k0_pay8 k0_pay9
  | 1 => k0_pay12 (v35 m c) (v66 m c) k0_pay7 k0_pay8
  | 2 => k0_pay15 (v35 m c) (v66 m c) k0_pay8 (k0_pay14 k0_pay7)
  | 3 => k0_pay17 (v35 m c) (v66 m c) k0_pay7 k0_pay8
  | 4 => k0_pay20 (v35 m c) (v66 m c) k0_pay8 (k0_pay19 k0_pay7)
  | 5 => k0_pay22 (v35 m c) (v66 m c) k0_pay7 k0_pay8
  | 6 => k0_pay25 (v35 m c) (v66 m c) k0_pay8 (k0_pay24 k0_pay7)
  | 7 => k0_pay27 (v35 m c) (v66 m c) k0_pay7 k0_pay8

/-! ## The memrefs -/

abbrev xM : Memref sig .tc .vmem S512x256 .bf16 := Memref.whole cc0_stg0_0
abbrev rwM : Memref sig .tc .vmem S256x16 .bf16 := Memref.whole cc0_stg1_0
abbrev rtM : Memref sig .tc .vmem S512x1 .i32 := Memref.whole cc0_stg2_0
abbrev ewM : Memref sig .tc .vmem S2x256x512 .bf16 := Memref.whole cc0_stg3_0
abbrev swM : Memref sig .tc .vmem S256x512 .bf16 := Memref.whole cc0_stg4_0
abbrev oM : Memref sig .tc .vmem S512x512 .f32 := Memref.whole cc0_stg5_0
abbrev aM : Memref sig .tc .vmem S8x128x256 .bf16 := Memref.whole cc0_scratch0
abbrev bM : Memref sig .tc .vmem S8x128x256 .bf16 := Memref.whole cc0_scratch1
abbrev pM : Memref sig .tc .vmem S8x128x512 .i8 := Memref.whole cc0_scratch2
abbrev rM : Memref sig .tc .vmem S8x128x512 .i8 := Memref.whole cc0_scratch3
abbrev uM : Memref sig .tc .vmem S8x128x1 .f32 := Memref.whole cc0_scratch4
abbrev tM : Memref sig .tc .vmem S8x128x1 .f32 := Memref.whole cc0_scratch5

/-! ## What the exchange buffers hold -/

/-- The rows device `c` dispatches: its slot `d` goes to device `d`; -/
def aC (c : Dev nD) : S8x128x256.Idx → Elt F .bf16 := fill (aPay m c)
/-- the rows it receives: its slot `s` is from device `s`. -/
def bC (c : Dev nD) : S8x128x256.Idx → Elt F .bf16 := exch (aC m) c

/-- The rows device `c` received from device `s`, as it loads them; -/
def bL (c s : Dev nD) : Vec F S1x128x256 .bf16 := bM.view.readAt (Elt F) (slotR 128 256 s).toLoadRect (bC m c)

/-- and its two experts' weights; -/
def v344 (c : Dev nD) : FVec F S256x512 .bf16 :=
  k0_pay38 (ewM.view.readAt (Elt F) (Rect.unit (s := S2x256x512) ![0, 0, 0] S1x256x512.size inb_S2x256x512_S1x256x512_0_0_0).toLoadRect (ewS m c))
def v346 (c : Dev nD) : FVec F S256x512 .bf16 :=
  k0_pay39 (ewM.view.readAt (Elt F) (Rect.unit (s := S2x256x512) ![1, 0, 0] S1x256x512.size inb_S2x256x512_S1x256x512_1_0_0).toLoadRect (ewS m c))

/-- the quantised results it computes for device `s` and their scales (one text for every `s`); -/
def pPay (c s : Dev nD) : Vec F S1x128x512 .i8 := k0_pay43 (v344 m c) (v346 m c) k0_pay40 (bL m c s)
def uPay (c s : Dev nD) : Vec F S1x128x1 .f32 := k0_pay44 (v344 m c) (v346 m c) k0_pay40 (bL m c s)

def pC (c : Dev nD) : S8x128x512.Idx → Elt F .i8 := fill (pPay m c)
def uC (c : Dev nD) : S8x128x1.Idx → Elt F .f32 := fill (uPay m c)
/-- what comes back to it: the slot `d` computed by device `d`. -/
def rC (c : Dev nD) : S8x128x512.Idx → Elt F .i8 := exch (pC m) c
def tC (c : Dev nD) : S8x128x1.Idx → Elt F .f32 := exch (uC m) c

def rL (c d : Dev nD) : Vec F S1x128x512 .i8 := rM.view.readAt (Elt F) (slotR 128 512 d).toLoadRect (rC m c)
def tL (c d : Dev nD) : Vec F S1x128x1 .f32 := tM.view.readAt (Elt F) (slotR 128 1 d).toLoadRect (tC m c)

/-! ## The result -/

/-- The shared expert's product, -/
def v342 (c : Dev nD) : FVec F S512x512 .f32 := k0_pay37 (v33 m c) (swS m c)
/-- then with the rows of devices 0 and 1, 2 to 4, 5 and 6 added, -/
def v655 (c : Dev nD) : FVec F S512x512 .f32 :=
  k0_pay89 (ddPay m c 0) (ddPay m c 1) (v342 m c) (rL m c 0) (tL m c 0) (rL m c 1) (tL m c 1)
def v694 (c : Dev nD) : FVec F S512x512 .f32 :=
  k0_pay90 (ddPay m c 2) (ddPay m c 3) (ddPay m c 4) (v655 m c) (rL m c 2) (tL m c 2) (rL m c 3) (tL m c 3) (rL m c 4) (tL m c 4)
def v720 (c : Dev nD) : FVec F S512x512 .f32 :=
  k0_pay91 (ddPay m c 5) (ddPay m c 6) (v694 m c) (rL m c 5) (tL m c 5) (rL m c 6) (tL m c 6)
/-- and with device 7's: the kernel's result. -/
def outAt (c : Dev nD) : Vec F S512x512 .f32 := k0_pay93 (ddPay m c 7) (v720 m c) (k0_pay92 (rL m c 7)) (tL m c 7)

/-! ## The slots as views, and what is read and written through them -/

/-- A memref's slot `d` with its unit axis dropped, as a transfer names it. -/
abbrev aSlot (d : Fin 8) : Memref sig .tc .vmem S128x256 .bf16 := (aM.slice (slotR 128 256 d) (fun _ => rfl)).squeeze S128x256 squeezes_S1x128x256_S128x256
abbrev bSlot (d : Fin 8) : Memref sig .tc .vmem S128x256 .bf16 := (bM.slice (slotR 128 256 d) (fun _ => rfl)).squeeze S128x256 squeezes_S1x128x256_S128x256
abbrev pSlot (d : Fin 8) : Memref sig .tc .vmem S128x512 .i8 := (pM.slice (slotR 128 512 d) (fun _ => rfl)).squeeze S128x512 squeezes_S1x128x512_S128x512
abbrev rSlot (d : Fin 8) : Memref sig .tc .vmem S128x512 .i8 := (rM.slice (slotR 128 512 d) (fun _ => rfl)).squeeze S128x512 squeezes_S1x128x512_S128x512
abbrev uSlot (d : Fin 8) : Memref sig .tc .vmem S128x1 .f32 := (uM.slice (slotR 128 1 d) (fun _ => rfl)).squeeze S128x1 squeezes_S1x128x1_S128x1
abbrev tSlot (d : Fin 8) : Memref sig .tc .vmem S128x1 .f32 := (tM.slice (slotR 128 1 d) (fun _ => rfl)).squeeze S128x1 squeezes_S1x128x1_S128x1

theorem aSlot_set (d : Fin 8) : (aSlot d).view.set = (slotR 128 256 d).set := (View.set_reshape _ _).trans (View.set_slice_whole _ _)
theorem bSlot_set (d : Fin 8) : (bSlot d).view.set = (slotR 128 256 d).set := (View.set_reshape _ _).trans (View.set_slice_whole _ _)
theorem pSlot_set (d : Fin 8) : (pSlot d).view.set = (slotR 128 512 d).set := (View.set_reshape _ _).trans (View.set_slice_whole _ _)
theorem rSlot_set (d : Fin 8) : (rSlot d).view.set = (slotR 128 512 d).set := (View.set_reshape _ _).trans (View.set_slice_whole _ _)
theorem uSlot_set (d : Fin 8) : (uSlot d).view.set = (slotR 128 1 d).set := (View.set_reshape _ _).trans (View.set_slice_whole _ _)
theorem tSlot_set (d : Fin 8) : (tSlot d).view.set = (slotR 128 1 d).set := (View.set_reshape _ _).trans (View.set_slice_whole _ _)

/-- Writing into the slot `c` of device `d` what device `c`'s slot `d` holds leaves there what the exchange leaves. -/
theorem land_b (c d : Dev nD) (f : S8x128x256.Idx → Elt F .bf16) : ∀ i ∈ (bSlot c).view.set,
    (bSlot c).view.write (Elt F) f ((aSlot d).view.read (Elt F) (aC m c)) Finset.univ i = bC m d i :=
  write_eq_of_read (bSlot c).view f (bC m d) _ (funext fun _ => exch_emb (aC m) d c _)
theorem land_r (c d : Dev nD) (f : S8x128x512.Idx → Elt F .i8) : ∀ i ∈ (rSlot c).view.set,
    (rSlot c).view.write (Elt F) f ((pSlot d).view.read (Elt F) (pC m c)) Finset.univ i = rC m d i :=
  write_eq_of_read (rSlot c).view f (rC m d) _ (funext fun _ => exch_emb (pC m) d c _)
theorem land_t (c d : Dev nD) (f : S8x128x1.Idx → Elt F .f32) : ∀ i ∈ (tSlot c).view.set,
    (tSlot c).view.write (Elt F) f ((uSlot d).view.read (Elt F) (uC m c)) Finset.univ i = tC m d i :=
  write_eq_of_read (tSlot c).view f (tC m d) _ (funext fun _ => exch_emb (uC m) d c _)

/-- Storing a block into the slot `d` leaves there what the filled array holds. -/
theorem store_a (c : Dev nD) (d : Fin 8) (f : S8x128x256.Idx → Elt F .bf16) : ∀ i ∈ (aM.access (slotR 128 256 d)).set,
    (aM.access (slotR 128 256 d)).write (Elt F) f (aPay m c d) Finset.univ i = aC m c i :=
  write_eq_of_read (aM.access (slotR 128 256 d)) f (aC m c) _ (funext fun _ => fill_emb (aPay m c) d _)
theorem store_p (c : Dev nD) (d : Fin 8) (f : S8x128x512.Idx → Elt F .i8) : ∀ i ∈ (pM.access (slotR 128 512 d)).set,
    (pM.access (slotR 128 512 d)).write (Elt F) f (pPay m c d) Finset.univ i = pC m c i :=
  write_eq_of_read (pM.access (slotR 128 512 d)) f (pC m c) _ (funext fun _ => fill_emb (pPay m c) d _)
theorem store_u (c : Dev nD) (d : Fin 8) (f : S8x128x1.Idx → Elt F .f32) : ∀ i ∈ (uM.access (slotR 128 1 d)).set,
    (uM.access (slotR 128 1 d)).write (Elt F) f (uPay m c d) Finset.univ i = uC m c i :=
  write_eq_of_read (uM.access (slotR 128 1 d)) f (uC m c) _ (funext fun _ => fill_emb (uPay m c) d _)

/-- A device's own slot is copied from one array to the other. -/
theorem copy_b (c : Dev nD) (f : S8x128x256.Idx → Elt F .bf16) : ∀ i ∈ (bM.access (slotR 128 256 c)).set,
    (bM.access (slotR 128 256 c)).write (Elt F) f (aM.view.readAt (Elt F) (slotR 128 256 c).toLoadRect (aC m c)) Finset.univ i = bC m c i :=
  write_eq_of_read (bM.access (slotR 128 256 c)) f (bC m c) _ (funext fun _ => exch_emb (aC m) c c _)
theorem copy_r (c : Dev nD) (f : S8x128x512.Idx → Elt F .i8) : ∀ i ∈ (rM.access (slotR 128 512 c)).set,
    (rM.access (slotR 128 512 c)).write (Elt F) f (pM.view.readAt (Elt F) (slotR 128 512 c).toLoadRect (pC m c)) Finset.univ i = rC m c i :=
  write_eq_of_read (rM.access (slotR 128 512 c)) f (rC m c) _ (funext fun _ => exch_emb (pC m) c c _)
theorem copy_t (c : Dev nD) (f : S8x128x1.Idx → Elt F .f32) : ∀ i ∈ (tM.access (slotR 128 1 c)).set,
    (tM.access (slotR 128 1 c)).write (Elt F) f (uM.view.readAt (Elt F) (slotR 128 1 c).toLoadRect (uC m c)) Finset.univ i = tC m c i :=
  write_eq_of_read (tM.access (slotR 128 1 c)) f (tC m c) _ (funext fun _ => exch_emb (uC m) c c _)

end Cert.MoE
-- ==== Proof.Protocol.lean ====
/- The protocol of the exchange. Every device signals the seven others' barrier cells and waits for seven units on its own; a
   unit from device `p` hands over `p`'s three landing slots for the receiver's data. Then each device sends one slot of rows to
   each other device (cells `0`: sent, `1`: received), quantised rows back (`2`, `3`) and their scales (`4`, `5`); a receive cell's
   unit hands over the landing slot with what was sent, a send cell's the source slot back. A device's cells for itself are idle. -/
module

public import proofs.«01_k».proof.Proof.Contents
public import Idealize.ShloMosaic.Lib.Pipeline.Launch
public import Idealize.ShloMosaic.Lib.Pipeline.Kit
public import Idealize.ShloMosaic.Lib.Tactic

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's copy and the exchange's, whose duties are named by the device that pays. -/
abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barS : Sem sig := (SemArray.scalar (sig.barrier 0 rfl) : Sems sig S_).sem

set_option backward.proofsInPublic true in
/-- The semaphore of the family `k` for the device `d`. -/
def dS (k : Fin 6) (d : Fin 8) : DmaSem sig := ⟨6 + 8 * k.val + d.val, by have := k.isLt; have := d.isLt; show _ < 54; omega⟩
set_option backward.proofsInPublic true in
def famQ (q : DmaSem sig) : Fin 6 := ⟨(q.val - 6) / 8 % 6, Nat.mod_lt _ (by decide)⟩
set_option backward.proofsInPublic true in
def slotQ (q : DmaSem sig) : Fin 8 := ⟨(q.val - 6) % 8, Nat.mod_lt _ (by decide)⟩

theorem famQ_dS (k : Fin 6) (d : Fin 8) : famQ (dS k d) = k := by
  refine Fin.ext ?_; have := k.isLt; have := d.isLt
  show (6 + 8 * k.val + d.val - 6) / 8 % 6 = k.val; omega
theorem slotQ_dS (k : Fin 6) (d : Fin 8) : slotQ (dS k d) = d := by
  refine Fin.ext ?_; have := k.isLt; have := d.isLt
  show (6 + 8 * k.val + d.val - 6) % 8 = d.val; omega
theorem dS_ge (k : Fin 6) (d : Fin 8) : 6 ≤ (dS k d).val := by show 6 ≤ 6 + 8 * k.val + d.val; omega
theorem dS_inj {k k' : Fin 6} {d d' : Fin 8} (h : dS k d = dS k' d') : k = k' ∧ d = d' :=
  ⟨by rw [← famQ_dS k d, h, famQ_dS], by rw [← slotQ_dS k d, h, slotQ_dS]⟩

abbrev barCell (c : Dev nD) : GSem nD τ sig := ((c : Thread nD τ), .reg barS)
abbrev dCell (k : Fin 6) (c : Dev nD) (d : Fin 8) : GSem nD τ sig := ((c : Thread nD τ), .dma (dS k d))

/-- All of a device's cells: the barrier's, and the six families'. -/
abbrev CI : Type := Option (Fin 6 × Fin 8)
abbrev osem : Fin 6 × Fin 8 → SemLoc sig := fun kd => .dma (dS kd.1 kd.2)
abbrev csem : CI → SemLoc sig := fun | none => .reg barS | some kd => osem kd
abbrev kcell (ci : Dev nD × CI) : GSem nD τ sig := ((ci.1 : Thread nD τ), csem ci.2)

abbrev NA : ℕ := (bSlot 0).view.dmaCredit
abbrev NQ : ℕ := (rSlot 0).view.dmaCredit
abbrev NS : ℕ := (tSlot 0).view.dmaCredit
def NK : Fin 6 → ℕ
  | 0 => NA | 1 => NA | 2 => NQ | 3 => NQ | 4 => NS | 5 => NS
theorem NA_pos : 0 < NA := View.dmaCredit_pos _ (by decide)
theorem NQ_pos : 0 < NQ := View.dmaCredit_pos _ (by decide)
theorem NS_pos : 0 < NS := View.dmaCredit_pos _ (by decide)
theorem NK_pos (k : Fin 6) : 0 < NK k := by
  fin_cases k
  · exact NA_pos
  · exact NA_pos
  · exact NQ_pos
  · exact NQ_pos
  · exact NS_pos
  · exact NS_pos

/-! ## Owning a slot -/

/-- The slot `d` of an array of eight slots, at device `c`, holding there what `f` does. -/
def slotPts {n k : ℕ} {e : EltTy} (M : Memref sig .tc .vmem (S3 n k) e) (c : Dev nD) (d : Fin 8) (f : Buf (Elt F) (M.view.loc (c : Thread nD τ))) : sProp 𝕄 :=
  M.view.loc (c : Thread nD τ) ↦[(M.access (slotR n k d)).set]{fullShare} f
instance slotPts_storable {n k : ℕ} {e : EltTy} (M : Memref sig .tc .vmem (S3 n k) e) (c d f) :
    BI.Storable (upEmb : UEmb _ 𝕄) (slotPts (F := F) M c d f) := by unfold slotPts; infer_instance

abbrev aPts (c : Dev nD) (d : Fin 8) (f : S8x128x256.Idx → Elt F .bf16) : sProp 𝕄 := slotPts (n := 128) (k := 256) aM c d f
abbrev bPts (c : Dev nD) (d : Fin 8) (f : S8x128x256.Idx → Elt F .bf16) : sProp 𝕄 := slotPts (n := 128) (k := 256) bM c d f
abbrev pPts (c : Dev nD) (d : Fin 8) (f : S8x128x512.Idx → Elt F .i8) : sProp 𝕄 := slotPts (n := 128) (k := 512) pM c d f
abbrev rPts (c : Dev nD) (d : Fin 8) (f : S8x128x512.Idx → Elt F .i8) : sProp 𝕄 := slotPts (n := 128) (k := 512) rM c d f
abbrev uPts (c : Dev nD) (d : Fin 8) (f : S8x128x1.Idx → Elt F .f32) : sProp 𝕄 := slotPts (n := 128) (k := 1) uM c d f
abbrev tPts (c : Dev nD) (d : Fin 8) (f : S8x128x1.Idx → Elt F .f32) : sProp 𝕄 := slotPts (n := 128) (k := 1) tM c d f

/-- The slot `s` of device `c`'s three landing arrays, whatever they hold. -/
def land (c : Dev nD) (s : Fin 8) : sProp 𝕄 := iprop((∃ f, bPts c s f) ∗ (∃ f, rPts c s f) ∗ ∃ f, tPts c s f)
instance land_storable (c s) : BI.Storable (upEmb : UEmb _ 𝕄) (land (F := F) c s) := by unfold land; infer_instance

/-- What the unit on a cell of the family `k` hands over. -/
def dPay (k : Fin 6) (c : Dev nD) (d : Fin 8) : sProp 𝕄 := match k with
  | 0 => aPts c d (aC m c)
  | 1 => bPts c d (bC m c)
  | 2 => pPts c d (pC m c)
  | 3 => rPts c d (rC m c)
  | 4 => uPts c d (uC m c)
  | 5 => tPts c d (tC m c)
instance dPay_storable (k c d) : BI.Storable (upEmb : UEmb _ 𝕄) (dPay (F := F) m k c d) := by
  fin_cases k <;> (dsimp only [dPay]; infer_instance)

/-! ## The schedule: one round; a barrier cell is paid by each other device, another cell by its peer -/

def rd : Rounds.Schedule (GSem nD τ sig) (Fin 8) 𝕄 where
  duties g r := if r = 0 ∧ g.1.2 = .tc then (match g.2 with
    | .reg s => if s = barS then Finset.univ.erase g.1.1 else ∅
    | .dma q => if 6 ≤ q.val ∧ slotQ q ≠ g.1.1 then {slotQ q} else ∅) else ∅
  unitless _ := False
  amount g _ _ := match g.2 with
    | .reg _ => 1
    | .dma q => NK (famQ q)
  payload g _ d := match g.2 with
    | .reg _ => land d g.1.1
    | .dma q => dPay m (famQ q) g.1.1 (slotQ q)
  amount_pos g _ _ _ := by
    cases g.2 with
    | reg s => exact Nat.one_pos
    | dma q => exact NK_pos _

instance rd_payload_storable (g : GSem nD τ sig) (r : ℕ) (d : Fin 8) : BI.Storable (upEmb : UEmb _ 𝕄) ((rd (F := F) m).payload g r d) := by
  obtain ⟨t, sm⟩ := g
  cases sm with
  | reg s => show BI.Storable upEmb (land d t.1); infer_instance
  | dma q => show BI.Storable upEmb (dPay m (famQ q) t.1 (slotQ q)); infer_instance

section Sched
variable (c : Dev nD) (k : Fin 6) (d : Fin 8)

theorem duties_bar : (rd (F := F) m).duties (barCell c) 0 = Finset.univ.erase c := by
  dsimp only [rd]; rw [if_pos ⟨rfl, rfl⟩, if_pos rfl]
theorem duties_d (h : d ≠ c) : (rd (F := F) m).duties (dCell k c d) 0 = {d} := by
  dsimp only [rd]; rw [if_pos ⟨rfl, rfl⟩, if_pos ⟨dS_ge k d, by rw [slotQ_dS]; exact h⟩, slotQ_dS]
theorem duties_own (r : ℕ) : (rd (F := F) m).duties (dCell k c c) r = ∅ := by
  dsimp only [rd]
  split
  · rw [if_neg (by rw [slotQ_dS]; exact fun h => h.2 rfl)]
  · rfl
theorem duties_later (g : GSem nD τ sig) : ∀ r, 1 ≤ r → (rd (F := F) m).duties g r = ∅ :=
  fun r hr => by dsimp only [rd]; rw [if_neg fun h => by omega]
theorem amount_bar (p : Fin 8) : (rd (F := F) m).amount (barCell c) 0 p = 1 := rfl
theorem amount_d (p : Fin 8) : (rd (F := F) m).amount (dCell k c d) 0 p = NK k := by dsimp only [rd]; rw [famQ_dS]
theorem payload_bar (p : Fin 8) : (rd (F := F) m).payload (barCell c) 0 p = land p c := rfl
theorem payload_d (p : Fin 8) : (rd (F := F) m).payload (dCell k c d) 0 p = dPay m k c d := by dsimp only [rd]; rw [famQ_dS, slotQ_dS]

theorem expect_bar : (rd (F := F) m).expect (barCell c) 0 = 7 := by
  unfold Schedule.expect Schedule.amountOf
  rw [duties_bar, Finset.sum_congr rfl fun p _ => amount_bar m c p, Finset.sum_const, Finset.card_erase_of_mem (Finset.mem_univ _), Finset.card_univ]
  rfl
theorem expect_d (h : d ≠ c) : (rd (F := F) m).expect (dCell k c d) 0 = NK k := by
  unfold Schedule.expect Schedule.amountOf; rw [duties_d m c k d h, Finset.sum_singleton, amount_d]

theorem rest_bar : bigSep ((rd (F := F) m).duties (barCell c) 0 \ ∅) (fun p => (rd (F := F) m).payload (barCell c) 0 p)
    = bigSep (Finset.univ.erase c) fun p => land p c := by
  rw [Finset.sdiff_empty, duties_bar]; rfl
theorem rest_d (h : d ≠ c) : bigSep ((rd (F := F) m).duties (dCell k c d) 0 \ ∅) (fun p => (rd (F := F) m).payload (dCell k c d) 0 p) = dPay m k c d := by
  rw [Finset.sdiff_empty, duties_d m c k d h, bigSep_singleton, payload_d]

end Sched

/-! ## What each device owes at launch; the levels -/

/-- What device `c` owes another cell: nothing if it is its own. -/
def owB (c p : Fin 8) : CellTallies nD τ sig Unit := if p = c then 0 else tallyAt (barCell p) () 1
def owD (k : Fin 6) (c d : Fin 8) : CellTallies nD τ sig Unit := if d = c then 0 else tallyAt (dCell k d c) () (NK k)

/-- What device `c` owes when `k` of its returns are still to be sent, in the order of sending: rows before scales, device 0 first; -/
def retO (c : Dev nD) : ℕ → CellTallies nD τ sig Unit
  | 0 => 0
  | k + 1 => retO c k + owD 5 c (Fin.ofNat 8 (7 - k)) + owD 3 c (Fin.ofNat 8 (7 - k))
/-- all of these and `k` dispatches; -/
def dspO (c : Dev nD) : ℕ → CellTallies nD τ sig Unit
  | 0 => retO c 8
  | k + 1 => dspO c k + owD 1 c (Fin.ofNat 8 (7 - k))
/-- all of these and `k` signals, the next neighbour's first. -/
def sigO (c : Dev nD) : ℕ → CellTallies nD τ sig Unit
  | 0 => dspO c 8
  | k + 1 => sigO c k + owB c (c + Fin.ofNat 8 (7 - k))
/-- At launch a device owes seven signals and everything after. -/
def O₀ (c : Dev nD) : CellTallies nD τ sig Unit := sigO c 7

def L (g : GSem nD τ sig) : Finset Unit := if g.1.2 = .tc then {()} else ∅
def lvF : Fin 6 → ℕ
  | 0 => 0 | 1 => 2 | 2 => 0 | 3 => 3 | 4 => 0 | 5 => 3
/-- The levels: staging and send cells 0, the barrier 1, the dispatch's receive cells 2, the returns' 3. -/
def lv (g : GSem nD τ sig) (_ : Unit) : ℕ := match g.2 with
  | .reg _ => 1
  | .dma q => if q.val < 6 then 0 else lvF (famQ q)

theorem L_of_ne (g : GSem nD τ sig) (h : g.1.2 ≠ .tc) : L g = ∅ := if_neg h
theorem L_tc (c : Dev nD) (sm : SemLoc sig) : L ((c : Thread nD τ), sm) = {()} := if_pos rfl
theorem lv_d (k : Fin 6) (c : Dev nD) (d : Fin 8) : lv (dCell k c d) () = lvF k := by
  dsimp only [lv]; rw [if_neg (by have := dS_ge k d; omega), famQ_dS]

/-- Everything owed by `O` is on TensorCore cells above the level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := by
  intro g u hg
  rw [Pi.add_apply, Finsupp.add_apply] at hg
  rcases Nat.add_pos_iff_pos_or_pos.mp hg with hg | hg
  · exact h g u hg
  · exact h' g u hg
theorem above_tally {n : ℕ} (g : GSem nD τ sig) (N : ℕ) (hg : g.1.2 = .tc) (hl : n < lv g ()) : Above n (tallyAt g () N) := by
  intro g' u h
  rw [tallyAt_apply] at h
  by_cases he : g' = g ∧ u = ()
  · rw [he.1, he.2]; exact ⟨hg, hl⟩
  · rw [if_neg he] at h; exact absurd h (Nat.lt_irrefl 0)
theorem above_owD {n : ℕ} (k : Fin 6) (c d : Fin 8) (h : n < lvF k) : Above n (owD k c d) := by
  unfold owD
  split
  · exact above_zero n
  · exact above_tally _ _ rfl (by rw [lv_d]; exact h)
theorem above_owB {n : ℕ} (c p : Fin 8) (h : n < 1) : Above n (owB c p) := by
  unfold owB
  split
  · exact above_zero n
  · exact above_tally _ _ rfl h
theorem above_retO (c : Dev nD) : ∀ k, Above 2 (retO c k)
  | 0 => above_zero 2
  | k + 1 => above_add (above_add (above_retO c k) (above_owD 5 c _ (by decide))) (above_owD 3 c _ (by decide))
theorem Above.mono {n n' : ℕ} {O : CellTallies nD τ sig Unit} (h : Above n O) (hn : n' ≤ n) : Above n' O :=
  fun g u hg => ⟨(h g u hg).1, lt_of_le_of_lt hn (h g u hg).2⟩
theorem above_dspO (c : Dev nD) : ∀ k, Above 1 (dspO c k)
  | 0 => (above_retO c 8).mono (by decide)
  | k + 1 => above_add (above_dspO c k) (above_owD 1 c _ (by decide))
theorem above_sigO (c : Dev nD) : ∀ k, Above 0 (sigO c k)
  | 0 => (above_dspO c 8).mono (by decide)
  | k + 1 => above_add (above_sigO c k) (above_owB c _ (by decide))
theorem above_O₀ (c : Dev nD) : Above 0 (O₀ c) := above_sigO c 7

/-- A device may wait on a cell whose level is below everything that it owes. -/
theorem mayWait (c : Dev nD) (sm : SemLoc sig) (n : ℕ) (hn : lv ((c : Thread nD τ), sm) () ≤ n) (O : CellTallies nD τ sig Unit) (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨⟨t, ph⟩, sm'⟩ := g
      obtain rfl : ph = .tc := (hO _ u hg).1
      exact (L_tc t sm').symm ▸ Finset.mem_singleton_self ())
    (fun p hp => by rw [Finset.mem_singleton.mp hp]; exact hn)
    (fun g u hg => (hO g u hg).2)

/-! ## The shared context of the bodies -/

/-- The invariant of every cell, under the names `K`, and that every cell has reached round 0. -/
def records (K : Dev nD × CI → ℕ) : sProp 𝕄 :=
  bigSep Finset.univ fun ci : Dev nD × CI => iprop(cellInv ER (rd m) (K ci) (kcell ci) ∗ reached ER (kcell ci) 0)
instance records_persistent (K : Dev nD × CI → ℕ) : BI.Persistent (records m K) := by unfold records; infer_instance

theorem record_at (K : Dev nD × CI → ℕ) (ci : Dev nD × CI) :
    records m K ⊢ iprop(cellInv ER (rd m) (K ci) (kcell ci) ∗ reached ER (kcell ci) 0) := by
  unfold records; exact bigSep_elim (Finset.mem_univ ci)

def ctx (K : Dev nD × CI → ℕ) : sProp 𝕄 := iprop(records m K ∗ levAts L lv)
instance ctx_persistent (K : Dev nD × CI → ℕ) : BI.Persistent (ctx m K) := by unfold ctx; infer_instance

/-- What a device owes, its waits so far left open. -/
def owesE (c : Dev nD) (O : CellTallies nD τ sig Unit) : sProp 𝕄 := iprop(∃ W : Waits sig Unit, owes (c : Thread nD τ) O W)

end Cert.MoE
-- ==== Proof.Steps.lean ====
/- What each effect of the body does to the resources of the exchange, for a device `c` and a slot `d`. The body's branches on whether
   a slot is the device's own are treated whole: the same statement holds for the device's own slot and for another's. -/
module

public import proofs.«01_k».proof.Proof.Protocol

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What a device holds of a slot between the effects -/

/-- The duties of a device's dispatch to `d`, and of its returns to `d`. -/
def tokA (c d : Dev nD) : sProp 𝕄 := iprop(dutyTok ER (dCell 0 c d) 0 d ∗ dutyTok ER (dCell 1 d c) 0 c)
def tokP (c d : Dev nD) : sProp 𝕄 := iprop(dutyTok ER (dCell 2 c d) 0 d ∗ dutyTok ER (dCell 3 d c) 0 c)
def tokU (c d : Dev nD) : sProp 𝕄 := iprop(dutyTok ER (dCell 4 c d) 0 d ∗ dutyTok ER (dCell 5 d c) 0 c)
def at0 (k : Fin 6) (c d : Dev nD) : sProp 𝕄 := atPos ER (dCell k c d) 0 ∅ 0
def z0 (k : Fin 6) (c d : Dev nD) : sProp 𝕄 := semVal (dCell k c d) 0

/-- The credit of another device's cell; nothing of the own. -/
def credO (k : Fin 6) (c d : Dev nD) : sProp 𝕄 := if d = c then iprop(emp) else cred (tallyAt (dCell k c d) () (NK k))
/-- The source slot, if it stayed with the device. -/
def ownS (k : Fin 6) (c d : Dev nD) : sProp 𝕄 := if d = c then dPay m k c d else iprop(emp)

variable (K : Dev nD × CI → ℕ)

section Steps
variable (c d : Dev nD) {α : Type} {O : CellTallies nD τ sig Unit}

/-- The cells' invariants and first rounds, out of the shared context. -/
theorem ctx_d (k : Fin 6) : ctx m K ⊢ iprop(cellInv ER (rd m) (K (c, some (k, d))) (dCell k c d) ∗ reached ER (dCell k c d) 0) := by
  unfold ctx
  iintro ⟨H, -⟩; iapply (record_at m K (c, some (k, d))); iexact H
theorem ctx_bar : ctx m K ⊢ iprop(cellInv ER (rd m) (K (c, none)) (barCell c) ∗ reached ER (barCell c) 0) := by
  unfold ctx
  iintro ⟨H, -⟩; iapply (record_at m K (c, none)); iexact H
theorem ctx_lev : ctx m K ⊢ (levAts L lv : sProp 𝕄) := by
  unfold ctx
  iintro ⟨-, H⟩; iexact H

/-- A signal to another device's barrier cell hands over the landing slots for that device's data. -/
theorem wp_sig {p n : Dev nD} (hn : n = p) (hp : p ≠ c) {k : PUnit → Prog (TpuEff nD τ sig (Elt F) Λ₀ .tc) α} {Q : α → sProp 𝕄} :
    iprop(ctx m K ∗ land c p ∗ dutyTok ER (barCell p) 0 c ∗ owesE c (O + owB c p))
      ⊢ iprop((owesE c O -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS 1) k) Q) := by
  subst hn
  rw [owB, if_neg hp]; unfold owesE
  iintro ⟨#HC, Hl, Ht, ⟨%W, HO⟩⟩ Hk
  ihave #HI := (ctx_bar m K n) $$ HC
  icases HI with ⟨#HI, #HR⟩
  iapply (Rounds.wp_signal 𝒱₀ ER (rd m) (c : Thread nD τ) none (dst := (n : Thread nD τ)) (κ := K (n, none))
      (d := (c : Fin 8)) (by rw [duties_bar]; exact Finset.mem_erase.mpr ⟨hp.symm, Finset.mem_univ _⟩) (amount_bar m n c) () O rfl) $$ [Hl Ht HO]
  · isplitr; · iexact HI
    isplitl [HO]; · iexact HO
    isplitl [Ht]; · iexact Ht
    isplitl [Hl]; · rw [payload_bar]; iexact Hl
    iexact HR
  iintro HO
  iapply Hk; iexists W; iexact HO

/-- The wait on its own barrier cell for the seven other devices: their landing slots for this device's data come with it. -/
theorem wp_bar (hO : Above 1 O) {k : PUnit → Prog (TpuEff nD τ sig (Elt F) Λ₀ .tc) α} {Q : α → sProp 𝕄} :
    iprop(ctx m K ∗ atPos ER (barCell c) 0 ∅ 0 ∗ cred (tallyAt (barCell c) () 7) ∗ owesE c O)
      ⊢ iprop(((owesE c O ∗ semVal (barCell c) 0 ∗ bigSep (Finset.univ.erase (c : Fin 8)) fun p => land p c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 7) k) Q) := by
  unfold owesE
  iintro ⟨#HC, Hat, Hcr, ⟨%W, HO⟩⟩ Hk
  ihave #HI := (ctx_bar m K c) $$ HC
  ihave #HL := (ctx_lev m K) $$ HC
  icases HI with ⟨#HI, #HR⟩
  iapply (Rounds.wp_wait_rest_token 𝒱₀ ER (rd m) (c : Thread nD τ) none (κ := K (c, none))
      (wpE_semWait_eq 𝒱₀ (c : Thread nD τ) none Set.univ) (Set.mem_univ _) () (O := O) (W := W) (R := 0) (m := 0) (T := ∅)
      (by rw [expect_bar])) $$ [Hcr HO Hat]
  · isplitr; · iexact HI
    isplitl [Hcr]; · iexact Hcr
    isplitl [HO]; · iexact HO
    isplitr; · iapply (mayWait c (.reg barS) 1 (le_refl 1) O hO); iexact HL
    iexact Hat
  iintro ⟨HO, Hat, -, Hpay⟩
  ihave Hp := (Entails.of_eq (rest_bar m c)) $$ Hpay
  imod (Rounds.cell_close ER (rd m) (Set.mem_univ (K (c, none))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A wait on another device's cell: what its unit hands over, and the cell closed. -/
theorem wp_recv (k : Fin 6) (h : d ≠ c) (n : ℕ) (hn : lvF k ≤ n) (hO : Above n O) {sp sp' : CoreSpace} {s s' : Shape} {e e' : EltTy}
    {sm : DmaSem sig} (hsm : sm = dS k d)
    {src : Memref sig .tc sp s e} {dst : Memref sig .tc sp' s' e'} {hx : src.view.WordExact} {hy : dst.view.WordExact}
    (hN : dst.view.dmaCredit = NK k)
    {kk : PUnit → Prog (TpuEff nD τ sig (Elt F) Λ₀ .tc) α} {Q : α → sProp 𝕄} :
    iprop(ctx m K ∗ at0 k c d ∗ cred (tallyAt (dCell k c d) () (NK k)) ∗ owesE c O)
      ⊢ iprop(((owesE c O ∗ z0 k c d ∗ dPay m k c d)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hx hy) kk) Q) := by
  subst hsm
  unfold owesE at0 z0
  iintro ⟨#HC, Hat, Hcr, ⟨%W, HO⟩⟩ Hk
  ihave #HI := (ctx_d m K c d k) $$ HC
  ihave #HL := (ctx_lev m K) $$ HC
  icases HI with ⟨#HI, #HR⟩
  iapply (Rounds.wp_wait_rest_token 𝒱₀ ER (rd m) (c : Thread nD τ) none (κ := K (c, some (k, d)))
      (wpE_waitDma2_eq 𝒱₀ (c : Thread nD τ) none Set.univ) (Set.mem_univ _) () (O := O) (W := W) (R := 0) (m := 0) (T := ∅)
      (by rw [Nat.zero_add, hN, expect_d m c k d h])) $$ [Hcr HO Hat]
  · isplitr; · iexact HI
    isplitl [Hcr]; · rw [hN]; iexact Hcr
    isplitl [HO]; · iexact HO
    isplitr; · iapply (mayWait c (.dma (dS k d)) n (by rw [lv_d k c d]; exact hn) O hO); iexact HL
    iexact Hat
  iintro ⟨HO, Hat, -, Hpay⟩
  ihave Hp := (Entails.of_eq (rest_d m c k d h)) $$ Hpay
  imod (Rounds.cell_close ER (rd m) (Set.mem_univ (K (c, some (k, d)))) (fun h => h) (R := 0 + 1) (duties_later m (dCell k c d))) $$ [Hat] with Hz
  · isplitr; · iexact HI
    iexact Hat
  iapply Hk
  isplitl [HO]; · iexists _; iexact HO
  isplitl [Hz]; · iexact Hz
  iexact Hp

/-- The own cells of a family close unused. -/
theorem close_own (k : Fin 6) : iprop(ctx m K ∗ at0 k c c) ⊢ iprop(|={Set.univ}=> z0 k c c) := by
  unfold at0 z0
  iintro ⟨#HC, Hat⟩
  ihave #HI := (ctx_d m K c c k) $$ HC
  icases HI with ⟨#HI, #HR⟩
  iapply (Rounds.cell_close ER (rd m) (Set.mem_univ (K (c, some (k, c)))) (fun h => h) (R := 0) (fun r _ => duties_own m c k r))
  isplitr; · iexact HI
  iexact Hat

/-- A transfer of a slot to another device `d`: families `k` (sent) and `k'` (received), the source's payload and the landing's. -/
theorem wp_xfer (k k' : Fin 6) (h : d ≠ c) {s : Shape} {e : EltTy} {src dst : Memref sig .tc .vmem s e}
    (fs : Buf (Elt F) (src.view.loc (c : Thread nD τ))) (fd : Buf (Elt F) (dst.view.loc (d : Thread nD τ)))
    (hN : dst.view.dmaCredit = NK k) (hk : NK k' = NK k)
    (hpay₁ : (src.view.loc (c : Thread nD τ) ↦[src.view.set]{fullShare} fs) ⊢ dPay m k c d)
    (hpay₂ : (dst.view.loc (d : Thread nD τ) ↦[dst.view.set]{fullShare} (dst.view.write (Elt F) fd (src.view.read (Elt F) fs) Finset.univ))
      ⊢ dPay m k' d c)
    {hsc : dst.view.ref.isScScratch = false} {hx : src.view.WordExact} {hy : dst.view.WordExact}
    {ht : DmaTarget.Typed .vmem (.dma (dS k' c)) (.remote (d : Thread nD τ) dst (.dma (dS k d)) hsc)}
    {kk : PUnit → Prog (TpuEff nD τ sig (Elt F) Λ₀ .tc) α} {Q : α → sProp 𝕄} :
    iprop(ctx m K ∗ (src.view.loc (c : Thread nD τ) ↦[src.view.set]{fullShare} fs) ∗ (dst.view.loc (d : Thread nD τ) ↦[dst.view.set]{fullShare} fd)
        ∗ dutyTok ER (dCell k c d) 0 d ∗ dutyTok ER (dCell k' d c) 0 c ∗ owesE c (O + owD k' c d))
      ⊢ iprop(((cred (tallyAt (dCell k c d) () (NK k)) ∗ owesE c O)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (d : Thread nD τ) dst (.dma (dS k d)) hsc) (.dma (dS k' c)) hx hy ht) kk) Q) := by
  rw [owD, if_neg h, hk]; unfold owesE
  iintro ⟨#HC, Hs, Hd, Ht, Ht', ⟨%W, HO⟩⟩ Hk
  ihave #HI := (ctx_d m K c d k) $$ HC
  ihave #HI' := (ctx_d m K d c k') $$ HC
  icases HI with ⟨#HI, #HR⟩
  icases HI' with ⟨#HI', #HR'⟩
  iapply (Rounds.wp_send_pointsTo 𝒱₀ ER (rd m) (c : Thread nD τ) none (κ₁ := K (c, some (k, d))) (κ₂ := K (d, some (k', c)))
      (r₁ := 0) (r₂ := 0) (d₁ := (d : Fin 8)) (d₂ := (c : Fin 8)) (fd := fd) (sem := .dma (dS k' c))
      (by rw [duties_d m c k d h]; exact Finset.mem_singleton_self _) (by rw [duties_d m d k' c h.symm]; exact Finset.mem_singleton_self _)
      () () (NK k) hN (amount_d m c k d d) ((amount_d m d k' c c).trans hk) O rfl (W := W)
      (by rw [payload_d]; exact hpay₁) (by rw [payload_d]; exact hpay₂)) $$ [Hs Hd Ht Ht' HO]
  · isplitr; · iexact HI
    isplitr; · iexact HI'
    isplitl [Hs]; · iexact Hs
    isplitl [Hd]; · iexact Hd
    isplitl [HO]; · iexact HO
    isplitl [Ht]; · iexact Ht
    isplitr; · iexact HR
    isplitl [Ht']; · iexact Ht'
    iexact HR'
  iintro ⟨Hc, HO⟩
  iapply Hk
  isplitl [Hc]; · iexact Hc
  iexists W; iexact HO

end Steps

end Cert.MoE
-- ==== Proof.Blocks.lean ====
/- The body's effects on one slot: loads and stores of a slot, and each branch on whether the slot is the device's own, stated once for
   both cases. -/
module

public import proofs.«01_k».proof.Proof.Steps

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

section Blocks
variable (c d : Dev nD) {α : Type} {O : CellTallies nD τ sig Unit}

section Slot
variable {n w : ℕ} {e : EltTy} (M : Memref sig .tc .vmem (S3 n w) e)

/-- A slot as a transfer names it, its unit axis dropped. -/
theorem slotPts_eq (f : Buf (Elt F) (M.view.loc (c : Thread nD τ))) {s : Shape} (h) (hs : (slotR n w d).shape.Squeezes s) :
    slotPts M c d f = (((M.slice (slotR n w d) h).squeeze s hs).view.loc (c : Thread nD τ)
      ↦[((M.slice (slotR n w d) h).squeeze s hs).view.set]{fullShare} f) := by
  unfold slotPts; rw [show ((M.slice (slotR n w d) h).squeeze s hs).view.set = (M.access (slotR n w d)).set from View.set_reshape _ _]

/-- Contents that agree on a slot are the same there. -/
theorem slotPts_congr {f g : Buf (Elt F) (M.view.loc (c : Thread nD τ))} (h : ∀ i ∈ (M.access (slotR n w d)).set, f i = g i) :
    slotPts M c d f = slotPts M c d g := pointsTo_congr h

theorem ld_slot {f : Buf (Elt F) (M.view.loc (c : Thread nD τ))} {hl : M.view.LoadsAt (slotR n w d).toLoadRect}
    {k : ((slotR n w d).shape.Idx → Elt F e) → Prog (TpuEff nD τ sig (Elt F) Λ₀ .tc) α} {Q : α → sProp 𝕄} :
    slotPts M c d f ⊢ iprop((slotPts M c d f -∗ wp frame (wpE (defs₀ (F := F)) 𝒱₀ (c : Thread nD τ) none) Set.univ
          (k (M.view.readAt (Elt F) (slotR n w d).toLoadRect f)) Q)
      -∗ wp frame (wpE (defs₀ (F := F)) 𝒱₀ (c : Thread nD τ) none) Set.univ (.op (.load M (slotR n w d).toLoadRect hl) k) Q) := by
  unfold slotPts
  exact wp_load_rect 𝒱₀ (c : Thread nD τ) none Set.univ (m := M) (r := slotR n w d) (Finset.Subset.refl _)

theorem st_slot {f g : Buf (Elt F) (M.view.loc (c : Thread nD τ))} {v : (slotR n w d).shape.Idx → Elt F e}
    (hg : ∀ i ∈ (M.access (slotR n w d)).set, (M.access (slotR n w d)).write (Elt F) f v Finset.univ i = g i)
    {hx : (M.access (slotR n w d)).Stores Finset.univ} {hm : (Finset.univ : Finset (slotR n w d).shape.Idx) = Finset.univ ∨ ∀ a, (slotR n w d).stride a = 1}
    {k : PUnit → Prog (TpuEff nD τ sig (Elt F) Λ₀ .tc) α} {Q : α → sProp 𝕄} :
    slotPts M c d f ⊢ iprop((slotPts M c d g -∗ wp frame (wpE (defs₀ (F := F)) 𝒱₀ (c : Thread nD τ) none) Set.univ (k ⟨⟩) Q)
      -∗ wp frame (wpE (defs₀ (F := F)) 𝒱₀ (c : Thread nD τ) none) Set.univ (.op (.store M (slotR n w d) v Finset.univ hx hm) k) Q) := by
  rw [← slotPts_congr c d M hg]; unfold slotPts
  exact wp_store 𝒱₀ (c : Thread nD τ) none Set.univ (m := M) (r := slotR n w d) (Mk := Finset.univ) (Finset.Subset.refl _)

end Slot

/-! ## The branches on whether a slot is the device's own -/

/-- A landing slot of the device's own, not yet written. -/
def ownB (c d : Dev nD) : sProp 𝕄 := if d = c then iprop(∃ f, bPts c d f) else iprop(emp)
def ownR (c d : Dev nD) : sProp 𝕄 := if d = c then iprop(∃ f, rPts c d f) else iprop(emp)
def ownT (c d : Dev nD) : sProp 𝕄 := if d = c then iprop(∃ f, tPts c d f) else iprop(emp)

theorem credit_a : (aSlot d).view.dmaCredit = NA := rfl
theorem credit_b : (bSlot d).view.dmaCredit = NA := rfl
theorem credit_p : (pSlot d).view.dmaCredit = NQ := rfl
theorem credit_r : (rSlot d).view.dmaCredit = NQ := rfl
theorem credit_u : (uSlot d).view.dmaCredit = NS := rfl
theorem credit_t : (tSlot d).view.dmaCredit = NS := rfl

/-- The dispatch of the slot `d`: sent, if `d` is another device. -/
theorem blk_disp {b : BitVec 1} (hb : b = 1#1 ↔ d ≠ c) {n : b = 1#1 → Dev nD} (hn : ∀ h, n h = d)
    {src : Memref sig .tc .vmem S128x256 .bf16} (hsrc : src = aSlot d)
    {dst : b = 1#1 → Memref sig .tc .vmem S128x256 .bf16} (hdst : ∀ h, dst h = bSlot c)
    {sS : DmaSem sig} (hsS : sS = dS 0 d) {rS : b = 1#1 → DmaSem sig} (hrS : ∀ h, rS h = dS 1 c)
    {hsc : ∀ h, (dst h).view.ref.isScScratch = false} {hx : ∀ h : b = 1#1, src.view.WordExact} {hy : ∀ h, (dst h).view.WordExact}
    {ht : ∀ h, DmaTarget.Typed .vmem (.dma (rS h)) (.remote (n h : Thread nD τ) (dst h) (.dma sS) (hsc h))}
    {rest : Prog (TpuEff nD τ sig (Elt F) Λ₀ .tc) α} {Q : α → sProp 𝕄} :
    iprop(ctx m K ∗ aPts c d (aC m c) ∗ (∃ f, bPts d c f) ∗ tokA c d ∗ owesE c (O + owD 1 c d))
      ⊢ iprop(((credO 0 c d ∗ ownS m 0 c d ∗ ownB c d ∗ owesE c O)
            -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.enqueueDma src (.remote (n h : Thread nD τ) (dst h) (.dma sS) (hsc h)) (.dma (rS h)) (hx h) (hy h) (ht h)) (fun _ => rest)
                else rest) Q) := by
  subst hsrc hsS
  obtain rfl : n = fun _ => d := funext hn
  obtain rfl : dst = fun _ => bSlot c := funext hdst
  obtain rfl : rS = fun _ => dS 1 c := funext hrS
  by_cases h : d = c
  · rw [dif_neg (fun hh => (hb.1 hh) h)]
    subst h
    unfold credO ownS ownB
    rw [if_pos rfl, if_pos rfl, if_pos rfl, owD, if_pos rfl, add_zero]
    iintro ⟨-, Ha, Hb, -, HO⟩ Hk
    iapply Hk
    isplitr; · iempintro
    isplitl [Ha]; · unfold dPay; iexact Ha
    isplitl [Hb]; · iexact Hb
    iexact HO
  · rw [dif_pos (hb.2 h)]
    unfold credO ownS ownB tokA
    rw [if_neg h, if_neg h, if_neg h]
    iintro ⟨#HC, Ha, ⟨%f, Hb⟩, ⟨Ht, Ht'⟩, HO⟩ Hk
    iapply (wp_xfer m K c d 0 1 h (src := aSlot d) (dst := bSlot c) (aC m c) f (credit_b c) rfl
      (Entails.of_eq (slotPts_eq c d aM (aC m c) _ _).symm)
      (Entails.of_eq ((pointsTo_congr (land_b m c d f)).trans (slotPts_eq d c bM (bC m d) _ _).symm))) $$ [Ha Hb Ht Ht' HO]
    · isplitr; · iexact HC
      isplitl [Ha]; · iapply (Entails.of_eq (slotPts_eq c d aM (aC m c) _ _)); iexact Ha
      isplitl [Hb]; · iapply (Entails.of_eq (slotPts_eq d c bM f _ _)); iexact Hb
      isplitl [Ht]; · iexact Ht
      isplitl [Ht']; · iexact Ht'
      iexact HO
    iintro ⟨Hc, HO⟩
    iapply Hk
    isplitl [Hc]; · iexact Hc
    isplitr; · iempintro
    isplitr; · iempintro
    iexact HO

end Blocks

end Cert.MoE
-- ==== Proof.Branches.lean ====
/- The body's remaining branches on whether a slot is the device's own, each stated once for both cases. -/
module

public import proofs.«01_k».proof.Proof.Blocks

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

section Branches
variable (c d : Dev nD) {α : Type} {O : CellTallies nD τ sig Unit}

/-- The device's own dispatch slot: copied from one array to the other. -/
theorem blk_copy {b : BitVec 1} (hb : b = 1#1 ↔ d = c) {pay : Vec F S1x128x256 .bf16 → Vec F S1x128x256 .bf16} (hpay : ∀ v, pay v = v)
    {hl : aM.view.LoadsAt (slotR 128 256 d).toLoadRect} {hl' : bM.view.LoadsAt (slotR 128 256 d).toLoadRect}
    {hx : (bM.access (slotR 128 256 d)).Stores Finset.univ} {hm : (Finset.univ : Finset (slotR 128 256 d).shape.Idx) = Finset.univ ∨ ∀ a, (slotR 128 256 d).stride a = 1}
    {rest : Prog (TpuEff nD τ sig (Elt F) Λ₀ .tc) α} {Q : α → sProp 𝕄} :
    iprop(ownS m 0 c d ∗ ownB c d)
      ⊢ iprop(((ownS m 0 c d ∗ ownS m 1 c d)
            -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.load aM (slotR 128 256 d).toLoadRect hl) (fun v => .op (.load bM (slotR 128 256 d).toLoadRect hl')
                  (fun _ => .op (.store bM (slotR 128 256 d) (pay v) Finset.univ hx hm) (fun _ => rest)))
                else rest) Q) := by
  by_cases h : d = c
  · rw [dif_pos (hb.2 h)]
    subst h
    unfold ownS ownB dPay
    rw [if_pos rfl, if_pos rfl, if_pos rfl]
    iintro ⟨Ha, ⟨%f, Hb⟩⟩ Hk
    iapply (ld_slot d d aM (n := 128) (w := 256)) $$ Ha; iintro Ha
    iapply (ld_slot d d bM (n := 128) (w := 256)) $$ Hb; iintro Hb
    iapply (st_slot d d bM (n := 128) (w := 256) (f := f) (g := bC m d) (fun i hi => by rw [hpay]; exact copy_b m d f i hi)) $$ Hb; iintro Hb
    iapply Hk
    isplitl [Ha]; · iexact Ha
    iexact Hb
  · rw [dif_neg (fun hh => h (hb.1 hh))]
    unfold ownS ownB
    rw [if_neg h, if_neg h, if_neg h]
    iintro - Hk
    iapply Hk
    isplitr <;> iempintro

/-- The device's own returned slots: copied from one array to the other. -/
theorem blk_retcopy {b : BitVec 1} (hb : b = 1#1 ↔ d = c) {pay : Vec F S1x128x512 .i8 → Vec F S1x128x512 .i8} (hpay : ∀ v, pay v = v)
    {pay' : Vec F S1x128x1 .f32 → Vec F S1x128x1 .f32} (hpay' : ∀ v, pay' v = v)
    {hl : pM.view.LoadsAt (slotR 128 512 d).toLoadRect} {hl' : rM.view.LoadsAt (slotR 128 512 d).toLoadRect}
    {hx : (rM.access (slotR 128 512 d)).Stores Finset.univ} {hm : (Finset.univ : Finset (slotR 128 512 d).shape.Idx) = Finset.univ ∨ ∀ a, (slotR 128 512 d).stride a = 1}
    {jl : uM.view.LoadsAt (slotR 128 1 d).toLoadRect} {jl' : tM.view.LoadsAt (slotR 128 1 d).toLoadRect}
    {jx : (tM.access (slotR 128 1 d)).Stores Finset.univ} {jm : (Finset.univ : Finset (slotR 128 1 d).shape.Idx) = Finset.univ ∨ ∀ a, (slotR 128 1 d).stride a = 1}
    {rest : Prog (TpuEff nD τ sig (Elt F) Λ₀ .tc) α} {Q : α → sProp 𝕄} :
    iprop(ownS m 2 c d ∗ ownR c d ∗ ownS m 4 c d ∗ ownT c d)
      ⊢ iprop(((ownS m 2 c d ∗ ownS m 3 c d ∗ ownS m 4 c d ∗ ownS m 5 c d)
            -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.load pM (slotR 128 512 d).toLoadRect hl) (fun v => .op (.load rM (slotR 128 512 d).toLoadRect hl')
                  (fun _ => .op (.store rM (slotR 128 512 d) (pay v) Finset.univ hx hm)
                  (fun _ => .op (.load uM (slotR 128 1 d).toLoadRect jl) (fun v => .op (.load tM (slotR 128 1 d).toLoadRect jl')
                  (fun _ => .op (.store tM (slotR 128 1 d) (pay' v) Finset.univ jx jm) (fun _ => rest))))))
                else rest) Q) := by
  by_cases h : d = c
  · rw [dif_pos (hb.2 h)]
    subst h
    unfold ownS ownR ownT dPay
    rw [if_pos rfl, if_pos rfl, if_pos rfl, if_pos rfl, if_pos rfl, if_pos rfl]
    iintro ⟨Hp, ⟨%f, Hr⟩, Hu, ⟨%g, Ht⟩⟩ Hk
    iapply (ld_slot d d pM (n := 128) (w := 512)) $$ Hp; iintro Hp
    iapply (ld_slot d d rM (n := 128) (w := 512)) $$ Hr; iintro Hr
    iapply (st_slot d d rM (n := 128) (w := 512) (f := f) (g := rC m d) (fun i hi => by rw [hpay]; exact copy_r m d f i hi)) $$ Hr; iintro Hr
    iapply (ld_slot d d uM (n := 128) (w := 1)) $$ Hu; iintro Hu
    iapply (ld_slot d d tM (n := 128) (w := 1)) $$ Ht; iintro Ht
    iapply (st_slot d d tM (n := 128) (w := 1) (f := g) (g := tC m d) (fun i hi => by rw [hpay']; exact copy_t m d g i hi)) $$ Ht; iintro Ht
    iapply Hk
    isplitl [Hp]; · iexact Hp
    isplitl [Hr]; · iexact Hr
    isplitl [Hu]; · iexact Hu
    iexact Ht
  · rw [dif_neg (fun hh => h (hb.1 hh))]
    unfold ownS ownR ownT
    rw [if_neg h, if_neg h, if_neg h, if_neg h, if_neg h, if_neg h]
    iintro - Hk
    iapply Hk
    isplitr; · iempintro
    isplitr; · iempintro
    isplitr <;> iempintro

/-- What ends a slot of the family `k`: another device's by the wait on its cell, the own at once. -/
theorem own_done (k : Fin 6) (h : d = c) {p : Prog (TpuEff nD τ sig (Elt F) Λ₀ .tc) α} {Q : α → sProp 𝕄} :
    iprop(ctx m K ∗ at0 k c d ∗ credO k c d ∗ ownS m k c d)
      ⊢ iprop(((z0 k c d ∗ dPay m k c d) -∗ wp frame (wpE (defs₀ (F := F)) 𝒱₀ (c : Thread nD τ) none) Set.univ p Q)
          -∗ wp frame (wpE (defs₀ (F := F)) 𝒱₀ (c : Thread nD τ) none) Set.univ p Q) := by
  subst h
  unfold ownS
  rw [if_pos rfl]
  iintro ⟨#HC, Hat, -, HS⟩ Hk
  imod (close_own m K d k) $$ [Hat] with Hz
  · isplitr; · iexact HC
    iexact Hat
  iapply Hk
  isplitl [Hz]; · iexact Hz
  iexact HS

theorem other_done (k : Fin 6) (h : d ≠ c) (n : ℕ) (hn : lvF k ≤ n) (hO : Above n O) {sp sp' : CoreSpace} {s s' : Shape} {e e' : EltTy}
    {sm : DmaSem sig} (hsm : sm = dS k d)
    {src : Memref sig .tc sp s e} {dst : Memref sig .tc sp' s' e'} {hx : src.view.WordExact} {hy : dst.view.WordExact}
    (hN : dst.view.dmaCredit = NK k)
    {kk : PUnit → Prog (TpuEff nD τ sig (Elt F) Λ₀ .tc) α} {Q : α → sProp 𝕄} :
    iprop(ctx m K ∗ at0 k c d ∗ credO k c d ∗ ownS m k c d ∗ owesE c O)
      ⊢ iprop(((z0 k c d ∗ dPay m k c d ∗ owesE c O)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sm src dst hx hy) kk) Q) := by
  unfold ownS credO
  rw [if_neg h, if_neg h]
  iintro ⟨#HC, Hat, Hc, -, HO⟩ Hk
  iapply (wp_recv m K c d k h n hn hO hsm (dst := dst) hN) $$ [Hat Hc HO]
  · isplitr; · iexact HC
    isplitl [Hat]; · iexact Hat
    isplitl [Hc]; · iexact Hc
    iexact HO
  iintro ⟨HO, Hz, HP⟩
  iapply Hk
  isplitl [Hz]; · iexact Hz
  isplitl [HP]; · iexact HP
  iexact HO

/-- The dispatched slot received from `d`. -/
theorem blk_recv {b : BitVec 1} (hb : b = 1#1 ↔ d ≠ c) (hO : Above 2 O)
    {sm : DmaSem sig} (hsm : sm = dS 1 d) {src dst : Memref sig .tc .vmem S128x256 .bf16} (hdst : dst = bSlot d)
    {hx : src.view.WordExact} {hy : dst.view.WordExact} {rest : Prog (TpuEff nD τ sig (Elt F) Λ₀ .tc) α} {Q : α → sProp 𝕄} :
    iprop(ctx m K ∗ at0 1 c d ∗ credO 1 c d ∗ ownS m 1 c d ∗ owesE c O)
      ⊢ iprop(((z0 1 c d ∗ bPts c d (bC m c) ∗ owesE c O)
            -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.waitDma2 sm src dst hx hy) (fun _ => rest) else rest) Q) := by
  subst hdst
  by_cases h : d = c
  · rw [dif_neg (fun hh => (hb.1 hh) h)]
    iintro ⟨#HC, Hat, Hc, HS, HO⟩ Hk
    iapply (own_done m K c d 1 h) $$ [Hat Hc HS]
    · isplitr; · iexact HC
      isplitl [Hat]; · iexact Hat
      isplitl [Hc]; · iexact Hc
      iexact HS
    iintro ⟨Hz, HP⟩
    iapply Hk
    isplitl [Hz]; · iexact Hz
    isplitl [HP]; · unfold dPay; iexact HP
    iexact HO
  · rw [dif_pos (hb.2 h)]
    iintro H Hk
    iapply (other_done m K c d 1 h 2 (le_refl 2) hO hsm (credit_b d)) $$ H
    iexact Hk

/-- The returned rows and their scales received from `d`. -/
theorem blk_recv2 {b : BitVec 1} (hb : b = 1#1 ↔ d ≠ c)
    {sm : DmaSem sig} (hsm : sm = dS 3 d) {src dst : Memref sig .tc .vmem S128x512 .i8} (hdst : dst = rSlot d)
    {hx : src.view.WordExact} {hy : dst.view.WordExact}
    {sm' : DmaSem sig} (hsm' : sm' = dS 5 d) {src' dst' : Memref sig .tc .vmem S128x1 .f32} (hdst' : dst' = tSlot d)
    {hx' : src'.view.WordExact} {hy' : dst'.view.WordExact} {rest : Prog (TpuEff nD τ sig (Elt F) Λ₀ .tc) α} {Q : α → sProp 𝕄} :
    iprop(ctx m K ∗ at0 3 c d ∗ credO 3 c d ∗ ownS m 3 c d ∗ at0 5 c d ∗ credO 5 c d ∗ ownS m 5 c d ∗ owesE c 0)
      ⊢ iprop(((z0 3 c d ∗ rPts c d (rC m c) ∗ z0 5 c d ∗ tPts c d (tC m c) ∗ owesE c 0)
            -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.waitDma2 sm src dst hx hy) (fun _ => .op (.waitDma2 sm' src' dst' hx' hy') (fun _ => rest)) else rest) Q) := by
  subst hdst hdst'
  iintro ⟨#HC, Hat, Hc, HS, Hat', Hc', HS', HO⟩ Hk
  by_cases h : d = c
  · rw [dif_neg (fun hh => (hb.1 hh) h)]
    iapply (own_done m K c d 3 h) $$ [Hat Hc HS]
    · isplitr; · iexact HC
      isplitl [Hat]; · iexact Hat
      isplitl [Hc]; · iexact Hc
      iexact HS
    iintro ⟨Hz, HP⟩
    iapply (own_done m K c d 5 h) $$ [Hat' Hc' HS']
    · isplitr; · iexact HC
      isplitl [Hat']; · iexact Hat'
      isplitl [Hc']; · iexact Hc'
      iexact HS'
    iintro ⟨Hz', HP'⟩
    iapply Hk
    isplitl [Hz]; · iexact Hz
    isplitl [HP]; · unfold dPay; iexact HP
    isplitl [Hz']; · iexact Hz'
    isplitl [HP']; · unfold dPay; iexact HP'
    iexact HO
  · rw [dif_pos (hb.2 h)]
    iapply (other_done m K c d 3 h 3 (le_refl 3) (above_zero 3) hsm (credit_r d)) $$ [Hat Hc HS HO]
    · isplitr; · iexact HC
      isplitl [Hat]; · iexact Hat
      isplitl [Hc]; · iexact Hc
      isplitl [HS]; · iexact HS
      iexact HO
    iintro ⟨Hz, HP, HO⟩
    iapply (other_done m K c d 5 h 3 (le_refl 3) (above_zero 3) hsm' (credit_t d)) $$ [Hat' Hc' HS' HO]
    · isplitr; · iexact HC
      isplitl [Hat']; · iexact Hat'
      isplitl [Hc']; · iexact Hc'
      isplitl [HS']; · iexact HS'
      iexact HO
    iintro ⟨Hz', HP', HO⟩
    iapply Hk
    isplitl [Hz]; · iexact Hz
    isplitl [HP]; · unfold dPay; iexact HP
    isplitl [Hz']; · iexact Hz'
    isplitl [HP']; · unfold dPay; iexact HP'
    iexact HO

/-- The return of what was computed for `d`: rows and scales sent, if `d` is another device. -/
theorem blk_ret {b : BitVec 1} (hb : b = 1#1 ↔ d ≠ c) {n n' : b = 1#1 → Dev nD} (hn : ∀ h, n h = d) (hn' : ∀ h, n' h = d)
    {src : Memref sig .tc .vmem S128x512 .i8} (hsrc : src = pSlot d)
    {dst : b = 1#1 → Memref sig .tc .vmem S128x512 .i8} (hdst : ∀ h, dst h = rSlot c)
    {sS : DmaSem sig} (hsS : sS = dS 2 d) {rS : b = 1#1 → DmaSem sig} (hrS : ∀ h, rS h = dS 3 c)
    {src' : Memref sig .tc .vmem S128x1 .f32} (hsrc' : src' = uSlot d)
    {dst' : b = 1#1 → Memref sig .tc .vmem S128x1 .f32} (hdst' : ∀ h, dst' h = tSlot c)
    {sS' : DmaSem sig} (hsS' : sS' = dS 4 d) {rS' : b = 1#1 → DmaSem sig} (hrS' : ∀ h, rS' h = dS 5 c)
    {hsc : ∀ h, (dst h).view.ref.isScScratch = false} {hx : ∀ h : b = 1#1, src.view.WordExact} {hy : ∀ h, (dst h).view.WordExact}
    {ht : ∀ h, DmaTarget.Typed .vmem (.dma (rS h)) (.remote (n h : Thread nD τ) (dst h) (.dma sS) (hsc h))}
    {hsc' : ∀ h, (dst' h).view.ref.isScScratch = false} {hx' : ∀ h : b = 1#1, src'.view.WordExact} {hy' : ∀ h, (dst' h).view.WordExact}
    {ht' : ∀ h, DmaTarget.Typed .vmem (.dma (rS' h)) (.remote (n' h : Thread nD τ) (dst' h) (.dma sS') (hsc' h))}
    {rest : Prog (TpuEff nD τ sig (Elt F) Λ₀ .tc) α} {Q : α → sProp 𝕄} :
    iprop(ctx m K ∗ pPts c d (pC m c) ∗ uPts c d (uC m c) ∗ (∃ f, rPts d c f) ∗ (∃ f, tPts d c f) ∗ tokP c d ∗ tokU c d
        ∗ owesE c (O + owD 5 c d + owD 3 c d))
      ⊢ iprop(((credO 2 c d ∗ ownS m 2 c d ∗ ownR c d ∗ credO 4 c d ∗ ownS m 4 c d ∗ ownT c d ∗ owesE c O)
            -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.enqueueDma src (.remote (n h : Thread nD τ) (dst h) (.dma sS) (hsc h)) (.dma (rS h)) (hx h) (hy h) (ht h))
                  (fun _ => .op (.enqueueDma src' (.remote (n' h : Thread nD τ) (dst' h) (.dma sS') (hsc' h)) (.dma (rS' h)) (hx' h) (hy' h) (ht' h)) (fun _ => rest))
                else rest) Q) := by
  subst hsrc hsS hsrc' hsS'
  obtain rfl : n = fun _ => d := funext hn
  obtain rfl : n' = fun _ => d := funext hn'
  obtain rfl : dst = fun _ => rSlot c := funext hdst
  obtain rfl : rS = fun _ => dS 3 c := funext hrS
  obtain rfl : dst' = fun _ => tSlot c := funext hdst'
  obtain rfl : rS' = fun _ => dS 5 c := funext hrS'
  by_cases h : d = c
  · rw [dif_neg (fun hh => (hb.1 hh) h)]
    subst h
    unfold credO ownS ownR ownT
    simp only [if_pos rfl, owD, add_zero, if_true]
    iintro ⟨-, Hp, Hu, Hr, Ht, -, -, HO⟩ Hk
    iapply Hk
    isplitr; · iempintro
    isplitl [Hp]; · unfold dPay; iexact Hp
    isplitl [Hr]; · iexact Hr
    isplitr; · iempintro
    isplitl [Hu]; · unfold dPay; iexact Hu
    isplitl [Ht]; · iexact Ht
    iexact HO
  · rw [dif_pos (hb.2 h)]
    unfold credO ownS ownR ownT tokP tokU
    rw [if_neg h, if_neg h, if_neg h, if_neg h, if_neg h, if_neg h]
    iintro ⟨#HC, Hp, Hu, ⟨%f, Hr⟩, ⟨%g, Ht⟩, ⟨H2, H3⟩, ⟨H4, H5⟩, HO⟩ Hk
    iapply (wp_xfer m K c d 2 3 h (src := pSlot d) (dst := rSlot c) (pC m c) f (credit_r c) rfl
      (Entails.of_eq (slotPts_eq c d pM (pC m c) _ _).symm)
      (Entails.of_eq ((pointsTo_congr (land_r m c d f)).trans (slotPts_eq d c rM (rC m d) _ _).symm))) $$ [Hp Hr H2 H3 HO]
    · isplitr; · iexact HC
      isplitl [Hp]; · iapply (Entails.of_eq (slotPts_eq c d pM (pC m c) _ _)); iexact Hp
      isplitl [Hr]; · iapply (Entails.of_eq (slotPts_eq d c rM f _ _)); iexact Hr
      isplitl [H2]; · iexact H2
      isplitl [H3]; · iexact H3
      iexact HO
    iintro ⟨Hc, HO⟩
    iapply (wp_xfer m K c d 4 5 h (src := uSlot d) (dst := tSlot c) (uC m c) g (credit_t c) rfl
      (Entails.of_eq (slotPts_eq c d uM (uC m c) _ _).symm)
      (Entails.of_eq ((pointsTo_congr (land_t m c d g)).trans (slotPts_eq d c tM (tC m d) _ _).symm))) $$ [Hu Ht H4 H5 HO]
    · isplitr; · iexact HC
      isplitl [Hu]; · iapply (Entails.of_eq (slotPts_eq c d uM (uC m c) _ _)); iexact Hu
      isplitl [Ht]; · iapply (Entails.of_eq (slotPts_eq d c tM g _ _)); iexact Ht
      isplitl [H4]; · iexact H4
      isplitl [H5]; · iexact H5
      iexact HO
    iintro ⟨Hc', HO⟩
    iapply Hk
    isplitl [Hc]; · iexact Hc
    isplitr; · iempintro
    isplitr; · iempintro
    isplitl [Hc']; · iexact Hc'
    isplitr; · iempintro
    isplitr; · iempintro
    iexact HO

/-- The waits for the three slots sent to `d`. -/
theorem blk_drain {b : BitVec 1} (hb : b = 1#1 ↔ d ≠ c)
    {sm : DmaSem sig} (hsm : sm = dS 0 d) {src : b = 1#1 → Memref sig .tc .vmem S128x256 .bf16} {dst : Memref sig .tc .vmem S128x256 .bf16} (hdst : dst = aSlot d)
    {hx : ∀ h, (src h).view.WordExact} {hy : ∀ h : b = 1#1, dst.view.WordExact}
    {sm' : DmaSem sig} (hsm' : sm' = dS 2 d) {src' : b = 1#1 → Memref sig .tc .vmem S128x512 .i8} {dst' : Memref sig .tc .vmem S128x512 .i8} (hdst' : dst' = pSlot d)
    {hx' : ∀ h, (src' h).view.WordExact} {hy' : ∀ h : b = 1#1, dst'.view.WordExact}
    {sm'' : DmaSem sig} (hsm'' : sm'' = dS 4 d) {src'' : b = 1#1 → Memref sig .tc .vmem S128x1 .f32} {dst'' : Memref sig .tc .vmem S128x1 .f32} (hdst'' : dst'' = uSlot d)
    {hx'' : ∀ h, (src'' h).view.WordExact} {hy'' : ∀ h : b = 1#1, dst''.view.WordExact}
    {rest : Prog (TpuEff nD τ sig (Elt F) Λ₀ .tc) α} {Q : α → sProp 𝕄} :
    iprop(ctx m K ∗ (at0 0 c d ∗ credO 0 c d ∗ ownS m 0 c d) ∗ (at0 2 c d ∗ credO 2 c d ∗ ownS m 2 c d) ∗ (at0 4 c d ∗ credO 4 c d ∗ ownS m 4 c d) ∗ owesE c 0)
      ⊢ iprop((((z0 0 c d ∗ dPay m 0 c d) ∗ (z0 2 c d ∗ dPay m 2 c d) ∗ (z0 4 c d ∗ dPay m 4 c d) ∗ owesE c 0)
            -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.waitDma2 sm (src h) dst (hx h) (hy h)) (fun _ => .op (.waitDma2 sm' (src' h) dst' (hx' h) (hy' h))
                (fun _ => .op (.waitDma2 sm'' (src'' h) dst'' (hx'' h) (hy'' h)) (fun _ => rest))) else rest) Q) := by
  subst hdst hdst' hdst''
  iintro ⟨#HC, ⟨Hat, Hc, HS⟩, ⟨Hat', Hc', HS'⟩, ⟨Hat'', Hc'', HS''⟩, HO⟩ Hk
  by_cases h : d = c
  · rw [dif_neg (fun hh => (hb.1 hh) h)]
    iapply (own_done m K c d 0 h) $$ [Hat Hc HS]
    · isplitr; · iexact HC
      isplitl [Hat]; · iexact Hat
      isplitl [Hc]; · iexact Hc
      iexact HS
    iintro H0
    iapply (own_done m K c d 2 h) $$ [Hat' Hc' HS']
    · isplitr; · iexact HC
      isplitl [Hat']; · iexact Hat'
      isplitl [Hc']; · iexact Hc'
      iexact HS'
    iintro H2
    iapply (own_done m K c d 4 h) $$ [Hat'' Hc'' HS'']
    · isplitr; · iexact HC
      isplitl [Hat'']; · iexact Hat''
      isplitl [Hc'']; · iexact Hc''
      iexact HS''
    iintro H4
    iapply Hk
    isplitl [H0]; · iexact H0
    isplitl [H2]; · iexact H2
    isplitl [H4]; · iexact H4
    iexact HO
  · rw [dif_pos (hb.2 h)]
    iapply (other_done m K c d 0 h 0 (le_refl 0) (above_zero 0) hsm (credit_a d)) $$ [Hat Hc HS HO]
    · isplitr; · iexact HC
      isplitl [Hat]; · iexact Hat
      isplitl [Hc]; · iexact Hc
      isplitl [HS]; · iexact HS
      iexact HO
    iintro ⟨Hz, HP, HO⟩
    iapply (other_done m K c d 2 h 0 (le_refl 0) (above_zero 0) hsm' (credit_p d)) $$ [Hat' Hc' HS' HO]
    · isplitr; · iexact HC
      isplitl [Hat']; · iexact Hat'
      isplitl [Hc']; · iexact Hc'
      isplitl [HS']; · iexact HS'
      iexact HO
    iintro ⟨Hz', HP', HO⟩
    iapply (other_done m K c d 4 h 0 (le_refl 0) (above_zero 0) hsm'' (credit_u d)) $$ [Hat'' Hc'' HS'' HO]
    · isplitr; · iexact HC
      isplitl [Hat'']; · iexact Hat''
      isplitl [Hc'']; · iexact Hc''
      isplitl [HS'']; · iexact HS''
      iexact HO
    iintro ⟨Hz'', HP'', HO⟩
    iapply Hk
    isplitl [Hz HP]; · (isplitl [Hz] <;> iassumption)
    isplitl [Hz' HP']; · (isplitl [Hz'] <;> iassumption)
    isplitl [Hz'' HP'']; · (isplitl [Hz''] <;> iassumption)
    iexact HO

end Branches

end Cert.MoE
-- ==== Proof.Comp.lean ====
/- One step of the expert loop: the rows of device `d` received, the results computed, and sent back. -/
module

public import proofs.«01_k».proof.Proof.Branches

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ)

/-- The device's number as the kernel computes it. -/
abbrev v2W (c : Dev nD) : BitVec 32 := Scalar.remsi (Scalar.divsi (Dev.word c) 1#32) 8#32

/-- The kernel's tests of its number against `d`. -/
theorem ne_iff : ∀ d c : Fin 8, Scalar.cmpi .ne (Scalar.extui (Scalar.cmpi .ne (v2W c) (BitVec.ofNat 32 d.val)) : BitVec 32) 0#32 = 1#1 ↔ d ≠ c := by decide
theorem eq_iff : ∀ d c : Fin 8, Scalar.cmpi .ne (Scalar.extui (Scalar.cmpi .eq (v2W c) (BitVec.ofNat 32 d.val)) : BitVec 32) 0#32 = 1#1 ↔ d = c := by decide

/-! ## What device `c` holds for device `d`, step by step -/

/-- For the computing: its places among the cells, its credit and tokens, and the buffers' slots; -/
def X1 (c d : Dev nD) : sProp 𝕄 := iprop(at0 1 c d ∗ credO 1 c d ∗ (∃ f, pPts c d f) ∗ (∃ f, uPts c d f)
  ∗ (∃ f, rPts d c f) ∗ (∃ f, tPts d c f) ∗ tokP c d ∗ tokU c d)
/-- for the receiving of the results; -/
def X3 (c d : Dev nD) : sProp 𝕄 := iprop((at0 3 c d ∗ credO 3 c d) ∗ at0 5 c d ∗ credO 5 c d)
/-- for the waits at the end. -/
def X0 (c d : Dev nD) : sProp 𝕄 := iprop(at0 0 c d ∗ at0 2 c d ∗ at0 4 c d)
/-- Before the dispatch; -/
def W1 (c d : Dev nD) : sProp 𝕄 := iprop((aPts c d (aC m c) ∗ (∃ f, bPts d c f) ∗ tokA c d) ∗ X1 c d ∗ X3 c d ∗ X0 c d)
/-- after it; -/
def W2 (c d : Dev nD) : sProp 𝕄 := iprop((credO 0 c d ∗ ownS m 0 c d ∗ ownS m 1 c d) ∗ X1 c d ∗ X3 c d ∗ X0 c d)
/-- with the results computed and, if `d` is another device, sent; -/
def W3 (c d : Dev nD) : sProp 𝕄 := iprop((credO 0 c d ∗ ownS m 0 c d) ∗ (z0 1 c d ∗ bPts c d (bC m c)) ∗ credO 2 c d ∗ credO 4 c d
  ∗ (ownS m 2 c d ∗ ownR c d ∗ ownS m 4 c d ∗ ownT c d) ∗ X3 c d ∗ X0 c d)
/-- with the own results copied too; -/
def W4 (c d : Dev nD) : sProp 𝕄 := iprop((credO 0 c d ∗ ownS m 0 c d) ∗ (z0 1 c d ∗ bPts c d (bC m c)) ∗ credO 2 c d ∗ credO 4 c d
  ∗ (ownS m 2 c d ∗ ownS m 3 c d ∗ ownS m 4 c d ∗ ownS m 5 c d) ∗ X3 c d ∗ X0 c d)
/-- with the results from `d` received; -/
def W5 (c d : Dev nD) : sProp 𝕄 := iprop(((at0 0 c d ∗ credO 0 c d ∗ ownS m 0 c d) ∗ (at0 2 c d ∗ credO 2 c d ∗ ownS m 2 c d) ∗ (at0 4 c d ∗ credO 4 c d ∗ ownS m 4 c d))
  ∗ (z0 1 c d ∗ bPts c d (bC m c)) ∗ (z0 3 c d ∗ rPts c d (rC m c)) ∗ z0 5 c d ∗ tPts c d (tC m c))
/-- and with everything sent to `d` through: all cells at rest and all slots back. -/
def W6 (c d : Dev nD) : sProp 𝕄 := iprop(((z0 0 c d ∗ dPay m 0 c d) ∗ (z0 2 c d ∗ dPay m 2 c d) ∗ (z0 4 c d ∗ dPay m 4 c d))
  ∗ (z0 1 c d ∗ bPts c d (bC m c)) ∗ (z0 3 c d ∗ rPts c d (rC m c)) ∗ z0 5 c d ∗ tPts c d (tC m c))

section Comp
variable (c d : Dev nD) {α : Type} {O : CellTallies nD τ sig Unit}

theorem blk_comp {b₀ : BitVec 1} (hb₀ : b₀ = 1#1 ↔ d ≠ c) (hO : Above 2 O)
    {sm : DmaSem sig} (hsm : sm = dS 1 d) {src₀ dst₀ : Memref sig .tc .vmem S128x256 .bf16} (hdst₀ : dst₀ = bSlot d)
    {hx₀ : src₀.view.WordExact} {hy₀ : dst₀.view.WordExact}
    {hlb : bM.view.LoadsAt (slotR 128 256 d).toLoadRect} {hlp : pM.view.LoadsAt (slotR 128 512 d).toLoadRect} {hlu : uM.view.LoadsAt (slotR 128 1 d).toLoadRect}
    {pay : Vec F S1x128x256 .bf16 → Vec F S1x128x512 .i8} (hpay : pay (bL m c d) = pPay m c d)
    {pay' : Vec F S1x128x256 .bf16 → Vec F S1x128x1 .f32} (hpay' : pay' (bL m c d) = uPay m c d)
    {ix : (pM.access (slotR 128 512 d)).Stores Finset.univ} {im : (Finset.univ : Finset (slotR 128 512 d).shape.Idx) = Finset.univ ∨ ∀ a, (slotR 128 512 d).stride a = 1}
    {jx : (uM.access (slotR 128 1 d)).Stores Finset.univ} {jm : (Finset.univ : Finset (slotR 128 1 d).shape.Idx) = Finset.univ ∨ ∀ a, (slotR 128 1 d).stride a = 1}
    {b : BitVec 1} (hb : b = 1#1 ↔ d ≠ c) {n n' : b = 1#1 → Dev nD} (hn : ∀ h, n h = d) (hn' : ∀ h, n' h = d)
    {src : Memref sig .tc .vmem S128x512 .i8} (hsrc : src = pSlot d)
    {dst : b = 1#1 → Memref sig .tc .vmem S128x512 .i8} (hdst : ∀ h, dst h = rSlot c)
    {sS : DmaSem sig} (hsS : sS = dS 2 d) {rS : b = 1#1 → DmaSem sig} (hrS : ∀ h, rS h = dS 3 c)
    {src' : Memref sig .tc .vmem S128x1 .f32} (hsrc' : src' = uSlot d)
    {dst' : b = 1#1 → Memref sig .tc .vmem S128x1 .f32} (hdst' : ∀ h, dst' h = tSlot c)
    {sS' : DmaSem sig} (hsS' : sS' = dS 4 d) {rS' : b = 1#1 → DmaSem sig} (hrS' : ∀ h, rS' h = dS 5 c)
    {hsc : ∀ h, (dst h).view.ref.isScScratch = false} {hx : ∀ h : b = 1#1, src.view.WordExact} {hy : ∀ h, (dst h).view.WordExact}
    {ht : ∀ h, DmaTarget.Typed .vmem (.dma (rS h)) (.remote (n h : Thread nD τ) (dst h) (.dma sS) (hsc h))}
    {hsc' : ∀ h, (dst' h).view.ref.isScScratch = false} {hx' : ∀ h : b = 1#1, src'.view.WordExact} {hy' : ∀ h, (dst' h).view.WordExact}
    {ht' : ∀ h, DmaTarget.Typed .vmem (.dma (rS' h)) (.remote (n' h : Thread nD τ) (dst' h) (.dma sS') (hsc' h))}
    {rest : Prog (TpuEff nD τ sig (Elt F) Λ₀ .tc) α} {rest₀ : Prog (TpuEff nD τ sig (Elt F) Λ₀ .tc) α} {Q : α → sProp 𝕄}
    (hr : rest₀ = .op (.load bM (slotR 128 256 d).toLoadRect hlb) (fun v => .op (.load pM (slotR 128 512 d).toLoadRect hlp) (fun _ =>
        .op (.store pM (slotR 128 512 d) (pay v) Finset.univ ix im) (fun _ => .op (.load uM (slotR 128 1 d).toLoadRect hlu) (fun _ =>
        .op (.store uM (slotR 128 1 d) (pay' v) Finset.univ jx jm) (fun _ =>
          (if h : b = 1#1 then .op (.enqueueDma src (.remote (n h : Thread nD τ) (dst h) (.dma sS) (hsc h)) (.dma (rS h)) (hx h) (hy h) (ht h))
                  (fun _ => .op (.enqueueDma src' (.remote (n' h : Thread nD τ) (dst' h) (.dma sS') (hsc' h)) (.dma (rS' h)) (hx' h) (hy' h) (ht' h)) (fun _ => rest))
                else rest))))))) :
    iprop(ctx m K ∗ W2 m c d ∗ owesE c (O + owD 5 c d + owD 3 c d))
      ⊢ iprop(((W3 m c d ∗ owesE c O) -∗ wp frame (wpE (defs₀ (F := F)) 𝒱₀ (c : Thread nD τ) none) Set.univ rest Q)
          -∗ wp frame (wpE (defs₀ (F := F)) 𝒱₀ (c : Thread nD τ) none) Set.univ
              (if h : b₀ = 1#1 then .op (.waitDma2 sm src₀ dst₀ hx₀ hy₀) (fun _ => rest₀) else rest₀) Q) := by
  have hO' : Above 2 (O + owD 5 c d + owD 3 c d) := above_add (above_add hO (above_owD 5 c d (by decide))) (above_owD 3 c d (by decide))
  unfold W2 W3 X1
  iintro ⟨#HC, ⟨⟨Hc0, Hs0, HS⟩, ⟨Hat, Hc, ⟨%fp, Hp⟩, ⟨%fu, Hu⟩, Hr, Ht, HtP, HtU⟩, HX⟩, HO⟩ Hk
  iapply (blk_recv m K c d hb₀ hO' hsm hdst₀) $$ [Hat Hc HS HO]
  · isplitr; · iexact HC
    isplitl [Hat]; · iexact Hat
    isplitl [Hc]; · iexact Hc
    isplitl [HS]; · iexact HS
    iexact HO
  iintro ⟨Hz, Hb, HO⟩
  subst hr
  iapply (ld_slot c d bM (n := 128) (w := 256)) $$ Hb; iintro Hb
  iapply (ld_slot c d pM (n := 128) (w := 512)) $$ Hp; iintro Hp
  iapply (st_slot c d pM (n := 128) (w := 512) (f := fp) (g := pC m c) (fun i hi => by
    rw [show pay (bM.view.readAt (Elt F) (slotR 128 256 d).toLoadRect (bC m c)) = pPay m c d from hpay]; exact store_p m c d fp i hi)) $$ Hp; iintro Hp
  iapply (ld_slot c d uM (n := 128) (w := 1)) $$ Hu; iintro Hu
  iapply (st_slot c d uM (n := 128) (w := 1) (f := fu) (g := uC m c) (fun i hi => by
    rw [show pay' (bM.view.readAt (Elt F) (slotR 128 256 d).toLoadRect (bC m c)) = uPay m c d from hpay']; exact store_u m c d fu i hi)) $$ Hu; iintro Hu
  iapply (blk_ret m K c d hb hn hn' hsrc hdst hsS hrS hsrc' hdst' hsS' hrS') $$ [Hp Hu Hr Ht HtP HtU HO]
  · isplitr; · iexact HC
    isplitl [Hp]; · iexact Hp
    isplitl [Hu]; · iexact Hu
    isplitl [Hr]; · iexact Hr
    isplitl [Ht]; · iexact Ht
    isplitl [HtP]; · iexact HtP
    isplitl [HtU]; · iexact HtU
    iexact HO
  iintro ⟨Hc2, Hs2, Hr, Hc4, Hs4, Ht, HO⟩
  iapply Hk
  isplitr [HO]
  · isplitl [Hc0 Hs0]
    · isplitl [Hc0]; · iexact Hc0
      iexact Hs0
    isplitl [Hz Hb]
    · isplitl [Hz]; · iexact Hz
      iexact Hb
    isplitl [Hc2]; · iexact Hc2
    isplitl [Hc4]; · iexact Hc4
    isplitr [HX]
    · isplitl [Hs2]; · iexact Hs2
      isplitl [Hr]; · iexact Hr
      isplitl [Hs4]; · iexact Hs4
      iexact Ht
    iexact HX
  iexact HO

/-- The own slots' copies end the step. -/
theorem blk_fin {b : BitVec 1} (hb : b = 1#1 ↔ d = c) {pay : Vec F S1x128x512 .i8 → Vec F S1x128x512 .i8} (hpay : ∀ v, pay v = v)
    {pay' : Vec F S1x128x1 .f32 → Vec F S1x128x1 .f32} (hpay' : ∀ v, pay' v = v)
    {hl : pM.view.LoadsAt (slotR 128 512 d).toLoadRect} {hl' : rM.view.LoadsAt (slotR 128 512 d).toLoadRect}
    {hx : (rM.access (slotR 128 512 d)).Stores Finset.univ} {hm : (Finset.univ : Finset (slotR 128 512 d).shape.Idx) = Finset.univ ∨ ∀ a, (slotR 128 512 d).stride a = 1}
    {jl : uM.view.LoadsAt (slotR 128 1 d).toLoadRect} {jl' : tM.view.LoadsAt (slotR 128 1 d).toLoadRect}
    {jx : (tM.access (slotR 128 1 d)).Stores Finset.univ} {jm : (Finset.univ : Finset (slotR 128 1 d).shape.Idx) = Finset.univ ∨ ∀ a, (slotR 128 1 d).stride a = 1}
    {rest : Prog (TpuEff nD τ sig (Elt F) Λ₀ .tc) α} {Q : α → sProp 𝕄} :
    W3 m c d
      ⊢ iprop((W4 m c d -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.load pM (slotR 128 512 d).toLoadRect hl) (fun v => .op (.load rM (slotR 128 512 d).toLoadRect hl')
                  (fun _ => .op (.store rM (slotR 128 512 d) (pay v) Finset.univ hx hm)
                  (fun _ => .op (.load uM (slotR 128 1 d).toLoadRect jl) (fun v => .op (.load tM (slotR 128 1 d).toLoadRect jl')
                  (fun _ => .op (.store tM (slotR 128 1 d) (pay' v) Finset.univ jx jm) (fun _ => rest))))))
                else rest) Q) := by
  unfold W3 W4
  iintro ⟨H0, Hb, Hc2, Hc4, HS, HX⟩ Hk
  iapply (blk_retcopy m c d hb hpay hpay') $$ HS
  iintro HS
  iapply Hk
  isplitl [H0]; · iexact H0
  isplitl [Hb]; · iexact Hb
  isplitl [Hc2]; · iexact Hc2
  isplitl [Hc4]; · iexact Hc4
  isplitl [HS]; · iexact HS
  iexact HX

/-- The dispatch to `d`, or the copy if `d` is the device itself. -/
theorem blk_send {b : BitVec 1} (hb : b = 1#1 ↔ d ≠ c) {n : b = 1#1 → Dev nD} (hn : ∀ h, n h = d)
    {src : Memref sig .tc .vmem S128x256 .bf16} (hsrc : src = aSlot d)
    {dst : b = 1#1 → Memref sig .tc .vmem S128x256 .bf16} (hdst : ∀ h, dst h = bSlot c)
    {sS : DmaSem sig} (hsS : sS = dS 0 d) {rS : b = 1#1 → DmaSem sig} (hrS : ∀ h, rS h = dS 1 c)
    {hsc : ∀ h, (dst h).view.ref.isScScratch = false} {hx : ∀ h : b = 1#1, src.view.WordExact} {hy : ∀ h, (dst h).view.WordExact}
    {ht : ∀ h, DmaTarget.Typed .vmem (.dma (rS h)) (.remote (n h : Thread nD τ) (dst h) (.dma sS) (hsc h))}
    {b' : BitVec 1} (hb' : b' = 1#1 ↔ d = c) {pay : Vec F S1x128x256 .bf16 → Vec F S1x128x256 .bf16} (hpay : ∀ v, pay v = v)
    {jl : aM.view.LoadsAt (slotR 128 256 d).toLoadRect} {jl' : bM.view.LoadsAt (slotR 128 256 d).toLoadRect}
    {jx : (bM.access (slotR 128 256 d)).Stores Finset.univ} {jm : (Finset.univ : Finset (slotR 128 256 d).shape.Idx) = Finset.univ ∨ ∀ a, (slotR 128 256 d).stride a = 1}
    {rest₀ rest : Prog (TpuEff nD τ sig (Elt F) Λ₀ .tc) α} {Q : α → sProp 𝕄}
    (hr : rest₀ = if h : b' = 1#1 then .op (.load aM (slotR 128 256 d).toLoadRect jl) (fun v => .op (.load bM (slotR 128 256 d).toLoadRect jl')
                  (fun _ => .op (.store bM (slotR 128 256 d) (pay v) Finset.univ jx jm) (fun _ => rest)))
                else rest) :
    iprop(ctx m K ∗ W1 m c d ∗ owesE c (O + owD 1 c d))
      ⊢ iprop(((W2 m c d ∗ owesE c O) -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.enqueueDma src (.remote (n h : Thread nD τ) (dst h) (.dma sS) (hsc h)) (.dma (rS h)) (hx h) (hy h) (ht h)) (fun _ => rest₀)
                else rest₀) Q) := by
  subst hr
  unfold W1 W2
  iintro ⟨#HC, ⟨⟨Ha, Hb, HT⟩, HX⟩, HO⟩ Hk
  iapply (blk_disp m K c d hb hn hsrc hdst hsS hrS) $$ [Ha Hb HT HO]
  · isplitr; · iexact HC
    isplitl [Ha]; · iexact Ha
    isplitl [Hb]; · iexact Hb
    isplitl [HT]; · iexact HT
    iexact HO
  iintro ⟨Hc, HS, HB, HO⟩
  iapply (blk_copy m c d hb' hpay) $$ [HS HB]
  · isplitl [HS]; · iexact HS
    iexact HB
  iintro HS
  iapply Hk
  isplitr [HO]
  · isplitl [Hc HS]
    · isplitl [Hc]; · iexact Hc
      iexact HS
    iexact HX
  iexact HO

/-- The results from `d` awaited. -/
theorem blk_back {b : BitVec 1} (hb : b = 1#1 ↔ d ≠ c)
    {sm : DmaSem sig} (hsm : sm = dS 3 d) {src dst : Memref sig .tc .vmem S128x512 .i8} (hdst : dst = rSlot d)
    {hx : src.view.WordExact} {hy : dst.view.WordExact}
    {sm' : DmaSem sig} (hsm' : sm' = dS 5 d) {src' dst' : Memref sig .tc .vmem S128x1 .f32} (hdst' : dst' = tSlot d)
    {hx' : src'.view.WordExact} {hy' : dst'.view.WordExact} {rest : Prog (TpuEff nD τ sig (Elt F) Λ₀ .tc) α} {Q : α → sProp 𝕄} :
    iprop(ctx m K ∗ W4 m c d ∗ owesE c 0)
      ⊢ iprop(((W5 m c d ∗ owesE c 0)
            -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.waitDma2 sm src dst hx hy) (fun _ => .op (.waitDma2 sm' src' dst' hx' hy') (fun _ => rest)) else rest) Q) := by
  unfold W4 W5 X3 X0
  iintro ⟨#HC, ⟨H0, Hb, Hc2, Hc4, ⟨Hs2, Hs3, Hs4, Hs5⟩, ⟨⟨Ha3, Hc3⟩, Ha5, Hc5⟩, Ha0, Ha2, Ha4⟩, HO⟩ Hk
  iapply (blk_recv2 m K c d hb hsm hdst hsm' hdst') $$ [Ha3 Hc3 Hs3 Ha5 Hc5 Hs5 HO]
  · isplitr; · iexact HC
    isplitl [Ha3]; · iexact Ha3
    isplitl [Hc3]; · iexact Hc3
    isplitl [Hs3]; · iexact Hs3
    isplitl [Ha5]; · iexact Ha5
    isplitl [Hc5]; · iexact Hc5
    isplitl [Hs5]; · iexact Hs5
    iexact HO
  iintro ⟨Hz3, Hr, Hz5, Ht, HO⟩
  iapply Hk
  isplitr [HO]
  · isplitl [H0 Ha0 Hc2 Hs2 Ha2 Hc4 Hs4 Ha4]
    · isplitl [H0 Ha0]
      · isplitl [Ha0]; · iexact Ha0
        iexact H0
      isplitl [Ha2 Hc2 Hs2]
      · isplitl [Ha2]; · iexact Ha2
        isplitl [Hc2]; · iexact Hc2
        iexact Hs2
      isplitl [Ha4]; · iexact Ha4
      isplitl [Hc4]; · iexact Hc4
      iexact Hs4
    isplitl [Hb]; · iexact Hb
    isplitl [Hz3 Hr]
    · isplitl [Hz3]; · iexact Hz3
      iexact Hr
    isplitl [Hz5]; · iexact Hz5
    iexact Ht
  iexact HO

/-- Their rows read, -/
theorem ld_back {hl : rM.view.LoadsAt (slotR 128 512 d).toLoadRect} {k : Vec F S1x128x512 .i8 → Prog (TpuEff nD τ sig (Elt F) Λ₀ .tc) α} {Q : α → sProp 𝕄} :
    W5 m c d ⊢ iprop((W5 m c d -∗ wp frame (wpE (defs₀ (F := F)) 𝒱₀ (c : Thread nD τ) none) Set.univ (k (rL m c d)) Q)
      -∗ wp frame (wpE (defs₀ (F := F)) 𝒱₀ (c : Thread nD τ) none) Set.univ (.op (.load rM (slotR 128 512 d).toLoadRect hl) k) Q) := by
  unfold W5
  iintro ⟨HE, Hb, ⟨Hz3, Hr⟩, Hz5, Ht⟩ Hk
  iapply (ld_slot c d rM (n := 128) (w := 512)) $$ Hr; iintro Hr
  iapply Hk
  isplitl [HE]; · iexact HE
  isplitl [Hb]; · iexact Hb
  isplitl [Hz3 Hr]
  · isplitl [Hz3]; · iexact Hz3
    iexact Hr
  isplitl [Hz5]; · iexact Hz5
  iexact Ht

/-- and their scales. -/
theorem ld_scale {hl : tM.view.LoadsAt (slotR 128 1 d).toLoadRect} {k : Vec F S1x128x1 .f32 → Prog (TpuEff nD τ sig (Elt F) Λ₀ .tc) α} {Q : α → sProp 𝕄} :
    W5 m c d ⊢ iprop((W5 m c d -∗ wp frame (wpE (defs₀ (F := F)) 𝒱₀ (c : Thread nD τ) none) Set.univ (k (tL m c d)) Q)
      -∗ wp frame (wpE (defs₀ (F := F)) 𝒱₀ (c : Thread nD τ) none) Set.univ (.op (.load tM (slotR 128 1 d).toLoadRect hl) k) Q) := by
  unfold W5
  iintro ⟨HE, Hb, Hr, Hz5, Ht⟩ Hk
  iapply (ld_slot c d tM (n := 128) (w := 1)) $$ Ht; iintro Ht
  iapply Hk
  isplitl [HE]; · iexact HE
  isplitl [Hb]; · iexact Hb
  isplitl [Hr]; · iexact Hr
  isplitl [Hz5]; · iexact Hz5
  iexact Ht

/-- Everything sent to `d` awaited. -/
theorem blk_end {b : BitVec 1} (hb : b = 1#1 ↔ d ≠ c)
    {sm : DmaSem sig} (hsm : sm = dS 0 d) {src : b = 1#1 → Memref sig .tc .vmem S128x256 .bf16} {dst : Memref sig .tc .vmem S128x256 .bf16} (hdst : dst = aSlot d)
    {hx : ∀ h, (src h).view.WordExact} {hy : ∀ h : b = 1#1, dst.view.WordExact}
    {sm' : DmaSem sig} (hsm' : sm' = dS 2 d) {src' : b = 1#1 → Memref sig .tc .vmem S128x512 .i8} {dst' : Memref sig .tc .vmem S128x512 .i8} (hdst' : dst' = pSlot d)
    {hx' : ∀ h, (src' h).view.WordExact} {hy' : ∀ h : b = 1#1, dst'.view.WordExact}
    {sm'' : DmaSem sig} (hsm'' : sm'' = dS 4 d) {src'' : b = 1#1 → Memref sig .tc .vmem S128x1 .f32} {dst'' : Memref sig .tc .vmem S128x1 .f32} (hdst'' : dst'' = uSlot d)
    {hx'' : ∀ h, (src'' h).view.WordExact} {hy'' : ∀ h : b = 1#1, dst''.view.WordExact}
    {rest : Prog (TpuEff nD τ sig (Elt F) Λ₀ .tc) α} {Q : α → sProp 𝕄} :
    iprop(ctx m K ∗ W5 m c d ∗ owesE c 0)
      ⊢ iprop(((W6 m c d ∗ owesE c 0)
            -∗ wp frame (wpE (defs₀ (F := F)) 𝒱₀ (c : Thread nD τ) none) Set.univ rest Q)
          -∗ wp frame (wpE (defs₀ (F := F)) 𝒱₀ (c : Thread nD τ) none) Set.univ
              (if h : b = 1#1 then .op (.waitDma2 sm (src h) dst (hx h) (hy h)) (fun _ => .op (.waitDma2 sm' (src' h) dst' (hx' h) (hy' h))
                (fun _ => .op (.waitDma2 sm'' (src'' h) dst'' (hx'' h) (hy'' h)) (fun _ => rest))) else rest) Q) := by
  unfold W5 W6
  iintro ⟨#HC, ⟨⟨H0, H2, H4⟩, HX⟩, HO⟩ Hk
  iapply (blk_drain m K c d hb hsm hdst hsm' hdst' hsm'' hdst'') $$ [H0 H2 H4 HO]
  · isplitr; · iexact HC
    isplitl [H0]; · iexact H0
    isplitl [H2]; · iexact H2
    isplitl [H4]; · iexact H4
    iexact HO
  iintro ⟨H0, H2, H4, HO⟩
  iapply Hk
  isplitr [HO]
  · isplitl [H0 H2 H4]
    · isplitl [H0]; · iexact H0
      isplitl [H2]; · iexact H2
      iexact H4
    iexact HX
  iexact HO

end Comp

end Cert.MoE
-- ==== Proof.Ops.lean ====
/- The semaphores and slots that the program names, as slices of its arrays. -/
module

public import proofs.«01_k».proof.Proof.Comp
public import Idealize.ShloMosaic.Lib.Pipeline.Value
public import proofs.«01_k».proof.Proof.Gen.KernelIdeal.Skeleton

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A slot's semaphore. -/
theorem sem_val {n base : ℕ} (h : base + S8.numel ≤ n) (c : Fin 8) (inb) (sq : S1.Squeezes S_) :
    (((SemArray.consecutive base S8 h).slice (Rect.unit (s := S8) ![c.val] S1.size inb)).squeeze S_ sq).sem.val = base + c.val := by
  show base + (S8.rowMajor ((Rect.unit (s := S8) ![c.val] S1.size inb).emb (Shape.reshapeEquiv sq.numel_eq fun i => i.elim0))).val = _
  rw [Shape.rowMajor_val_one]
  have h1 : ((Shape.reshapeEquiv (s := S1) sq.numel_eq fun i : Fin 0 => i.elim0) 0).val < 1 := Fin.isLt _
  show base + (c.val + 1 * ((Shape.reshapeEquiv (s := S1) sq.numel_eq fun i : Fin 0 => i.elim0) 0).val) = _
  omega
theorem sem6 (c : Fin 8) (inb) : ((SemArray.slice cc0_scratch6 (Rect.unit (s := S8) ![c.val] S1.size inb)).squeeze S_ squeezes_S1_S_).sem = dS 0 c :=
  Fin.ext (sem_val _ c inb _)
theorem sem7 (c : Fin 8) (inb) : ((SemArray.slice cc0_scratch7 (Rect.unit (s := S8) ![c.val] S1.size inb)).squeeze S_ squeezes_S1_S_).sem = dS 1 c :=
  Fin.ext (sem_val _ c inb _)
theorem sem8 (c : Fin 8) (inb) : ((SemArray.slice cc0_scratch8 (Rect.unit (s := S8) ![c.val] S1.size inb)).squeeze S_ squeezes_S1_S_).sem = dS 2 c :=
  Fin.ext (sem_val _ c inb _)
theorem sem9 (c : Fin 8) (inb) : ((SemArray.slice cc0_scratch9 (Rect.unit (s := S8) ![c.val] S1.size inb)).squeeze S_ squeezes_S1_S_).sem = dS 3 c :=
  Fin.ext (sem_val _ c inb _)
theorem sem10 (c : Fin 8) (inb) : ((SemArray.slice cc0_scratch10 (Rect.unit (s := S8) ![c.val] S1.size inb)).squeeze S_ squeezes_S1_S_).sem = dS 4 c :=
  Fin.ext (sem_val _ c inb _)
theorem sem11 (c : Fin 8) (inb) : ((SemArray.slice cc0_scratch11 (Rect.unit (s := S8) ![c.val] S1.size inb)).squeeze S_ squeezes_S1_S_).sem = dS 5 c :=
  Fin.ext (sem_val _ c inb _)

theorem sem7_off {off : Fin 1 → ℕ} {c : Fin 8} (h : off = ![c.val]) (inb) :
    ((SemArray.slice cc0_scratch7 (Rect.unit (s := S8) off S1.size inb)).squeeze S_ squeezes_S1_S_).sem = dS 1 c := by subst h; exact sem7 c inb
theorem sem9_off {off : Fin 1 → ℕ} {c : Fin 8} (h : off = ![c.val]) (inb) :
    ((SemArray.slice cc0_scratch9 (Rect.unit (s := S8) off S1.size inb)).squeeze S_ squeezes_S1_S_).sem = dS 3 c := by subst h; exact sem9 c inb
theorem sem11_off {off : Fin 1 → ℕ} {c : Fin 8} (h : off = ![c.val]) (inb) :
    ((SemArray.slice cc0_scratch11 (Rect.unit (s := S8) off S1.size inb)).squeeze S_ squeezes_S1_S_).sem = dS 5 c := by subst h; exact sem11 c inb
theorem bSlot_off {off : Fin 3 → ℕ} {c : Fin 8} (h : off = ![c.val, 0, 0]) (inb) (hh) :
    (bM.slice (Rect.unit (s := S8x128x256) off S1x128x256.size inb) hh).squeeze S128x256 squeezes_S1x128x256_S128x256 = bSlot c := by subst h; rfl
theorem rSlot_off {off : Fin 3 → ℕ} {c : Fin 8} (h : off = ![c.val, 0, 0]) (inb) (hh) :
    (rM.slice (Rect.unit (s := S8x128x512) off S1x128x512.size inb) hh).squeeze S128x512 squeezes_S1x128x512_S128x512 = rSlot c := by subst h; rfl
theorem tSlot_off {off : Fin 3 → ℕ} {c : Fin 8} (h : off = ![c.val, 0, 0]) (inb) (hh) :
    (tM.slice (Rect.unit (s := S8x128x1) off S1x128x1.size inb) hh).squeeze S128x1 squeezes_S1x128x1_S128x1 = tSlot c := by subst h; rfl

end Cert.MoE
-- ==== Proof.PartsB.lean ====
/- The parts of the body that gather the rows to dispatch. -/
module

public import proofs.«01_k».proof.Proof.Ops

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- The rows for devices 0 and 1 gathered. -/
theorem part4 (Q : (Σ' (v125 : FVec F S512x128 .bf16) (v148 : FVec F S512x128 .bf16), IVec S1x128 32) → sProp 𝕄) :
    iprop(ctx m K ∗ (∃ f, aPts c 0 f) ∗ (∃ f, aPts c 1 f))
      ⊢ iprop(((aPts c 0 (aC m c) ∗ aPts c 1 (aC m c)) -∗ Q (⟨ddPay m c 0, ddPay m c 1, k0_pay14 k0_pay7⟩))
          -∗ wp frame (wpE (defs₀ (F := F)) 𝒱₀ (c : Thread nD τ) none) Set.univ
              (k0_part4 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 (v35 m c) (v60 m c) (v66 m c) k0_pay7 k0_pay8 k0_pay9) Q) := by
  simp only [k0_part4_eq_skeleton]; unfold k0_part4_skel
  simp only [semSignalWord, semWaitWord, Prog.lift, Prog.bind_op, Prog.bind_ret, Prog.pure_eq_ret, wp_deviceId]
  rw [show ddPay m c 0 = k0_pay10 (v35 m c) (v66 m c) k0_pay8 k0_pay9 from rfl]
  rw [show ddPay m c 1 = k0_pay12 (v35 m c) (v66 m c) k0_pay7 k0_pay8 from rfl]
  iintro ⟨#HC, ⟨%f0, H0⟩, ⟨%f1, H1⟩⟩ Hk
  iapply (ld_slot c 0 aM (n := 128) (w := 256)) $$ H0; iintro H0
  iapply (st_slot c 0 aM (n := 128) (w := 256) (f := f0) (g := aC m c) (fun i hi => store_a m c 0 f0 i hi)) $$ H0; iintro H0
  iapply (ld_slot c 1 aM (n := 128) (w := 256)) $$ H1; iintro H1
  iapply (st_slot c 1 aM (n := 128) (w := 256) (f := f1) (g := aC m c) (fun i hi => store_a m c 1 f1 i hi)) $$ H1; iintro H1
  rw [wp_ret]; imodintro
  iapply Hk
  isplitl [H0]; · iexact H0
  iexact H1

/-- The rows for devices 2 and 3 gathered. -/
theorem part5 (Q : (Σ' (v125 : FVec F S512x128 .bf16) (v148 : FVec F S512x128 .bf16), IVec S1x128 32) → sProp 𝕄) :
    iprop(ctx m K ∗ (∃ f, aPts c 2 f) ∗ (∃ f, aPts c 3 f))
      ⊢ iprop(((aPts c 2 (aC m c) ∗ aPts c 3 (aC m c)) -∗ Q (⟨ddPay m c 2, ddPay m c 3, k0_pay19 k0_pay7⟩))
          -∗ wp frame (wpE (defs₀ (F := F)) 𝒱₀ (c : Thread nD τ) none) Set.univ
              (k0_part5 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 (v35 m c) (v60 m c) (v66 m c) k0_pay7 k0_pay8 (k0_pay14 k0_pay7)) Q) := by
  simp only [k0_part5_eq_skeleton]; unfold k0_part5_skel
  simp only [semSignalWord, semWaitWord, Prog.lift, Prog.bind_op, Prog.bind_ret, Prog.pure_eq_ret, wp_deviceId]
  rw [show ddPay m c 2 = k0_pay15 (v35 m c) (v66 m c) k0_pay8 (k0_pay14 k0_pay7) from rfl]
  rw [show ddPay m c 3 = k0_pay17 (v35 m c) (v66 m c) k0_pay7 k0_pay8 from rfl]
  iintro ⟨#HC, ⟨%f2, H2⟩, ⟨%f3, H3⟩⟩ Hk
  iapply (ld_slot c 2 aM (n := 128) (w := 256)) $$ H2; iintro H2
  iapply (st_slot c 2 aM (n := 128) (w := 256) (f := f2) (g := aC m c) (fun i hi => store_a m c 2 f2 i hi)) $$ H2; iintro H2
  iapply (ld_slot c 3 aM (n := 128) (w := 256)) $$ H3; iintro H3
  iapply (st_slot c 3 aM (n := 128) (w := 256) (f := f3) (g := aC m c) (fun i hi => store_a m c 3 f3 i hi)) $$ H3; iintro H3
  rw [wp_ret]; imodintro
  iapply Hk
  isplitl [H2]; · iexact H2
  iexact H3

/-- The rows for devices 4 and 5 gathered. -/
theorem part6 (Q : (Σ' (v125 : FVec F S512x128 .bf16) (v148 : FVec F S512x128 .bf16), IVec S1x128 32) → sProp 𝕄) :
    iprop(ctx m K ∗ (∃ f, aPts c 4 f) ∗ (∃ f, aPts c 5 f))
      ⊢ iprop(((aPts c 4 (aC m c) ∗ aPts c 5 (aC m c)) -∗ Q (⟨ddPay m c 4, ddPay m c 5, k0_pay24 k0_pay7⟩))
          -∗ wp frame (wpE (defs₀ (F := F)) 𝒱₀ (c : Thread nD τ) none) Set.univ
              (k0_part6 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 (v35 m c) (v60 m c) (v66 m c) k0_pay7 k0_pay8 (k0_pay19 k0_pay7)) Q) := by
  simp only [k0_part6_eq_skeleton]; unfold k0_part6_skel
  simp only [semSignalWord, semWaitWord, Prog.lift, Prog.bind_op, Prog.bind_ret, Prog.pure_eq_ret, wp_deviceId]
  rw [show ddPay m c 4 = k0_pay20 (v35 m c) (v66 m c) k0_pay8 (k0_pay19 k0_pay7) from rfl]
  rw [show ddPay m c 5 = k0_pay22 (v35 m c) (v66 m c) k0_pay7 k0_pay8 from rfl]
  iintro ⟨#HC, ⟨%f4, H4⟩, ⟨%f5, H5⟩⟩ Hk
  iapply (ld_slot c 4 aM (n := 128) (w := 256)) $$ H4; iintro H4
  iapply (st_slot c 4 aM (n := 128) (w := 256) (f := f4) (g := aC m c) (fun i hi => store_a m c 4 f4 i hi)) $$ H4; iintro H4
  iapply (ld_slot c 5 aM (n := 128) (w := 256)) $$ H5; iintro H5
  iapply (st_slot c 5 aM (n := 128) (w := 256) (f := f5) (g := aC m c) (fun i hi => store_a m c 5 f5 i hi)) $$ H5; iintro H5
  rw [wp_ret]; imodintro
  iapply Hk
  isplitl [H4]; · iexact H4
  iexact H5

/-- The rows for devices 6 and 7 gathered, and the seven other devices' signals awaited: with them come their landing slots. -/
theorem part7 (Q : (Σ' (v263 : FVec F S512x128 .bf16), FVec F S512x128 .bf16) → sProp 𝕄) :
    iprop(ctx m K ∗ (∃ f, aPts c 6 f) ∗ (∃ f, aPts c 7 f) ∗ (atPos ER (barCell c) 0 ∅ 0 ∗ cred (tallyAt (barCell c) () 7)) ∗ owesE c (dspO c 8))
      ⊢ iprop(((aPts c 6 (aC m c) ∗ aPts c 7 (aC m c) ∗ semVal (barCell c) 0 ∗ (bigSep (Finset.univ.erase (c : Fin 8)) fun p => land p c) ∗ owesE c (dspO c 8)) -∗ Q (⟨ddPay m c 6, ddPay m c 7⟩))
          -∗ wp frame (wpE (defs₀ (F := F)) 𝒱₀ (c : Thread nD τ) none) Set.univ
              (k0_part7 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 (SemArray.scalar (sig.barrier 0 rfl)) (v35 m c) (v60 m c) (v66 m c) k0_pay7 k0_pay8 (k0_pay24 k0_pay7)) Q) := by
  simp only [k0_part7_eq_skeleton]; unfold k0_part7_skel
  simp only [semSignalWord, semWaitWord, Prog.lift, Prog.bind_op, Prog.bind_ret, Prog.pure_eq_ret, wp_deviceId]
  rw [show ddPay m c 6 = k0_pay25 (v35 m c) (v66 m c) k0_pay8 (k0_pay24 k0_pay7) from rfl]
  rw [show ddPay m c 7 = k0_pay27 (v35 m c) (v66 m c) k0_pay7 k0_pay8 from rfl]
  iintro ⟨#HC, ⟨%f6, H6⟩, ⟨%f7, H7⟩, ⟨Hat, Hcr⟩, HO⟩ Hk
  iapply (ld_slot c 6 aM (n := 128) (w := 256)) $$ H6; iintro H6
  iapply (st_slot c 6 aM (n := 128) (w := 256) (f := f6) (g := aC m c) (fun i hi => store_a m c 6 f6 i hi)) $$ H6; iintro H6
  iapply (ld_slot c 7 aM (n := 128) (w := 256)) $$ H7; iintro H7
  iapply (st_slot c 7 aM (n := 128) (w := 256) (f := f7) (g := aC m c) (fun i hi => store_a m c 7 f7 i hi)) $$ H7; iintro H7
  iapply (wp_bar m K c (above_dspO c 8)) $$ [Hat Hcr HO]
  · isplitr; · iexact HC
    isplitl [Hat]; · iexact Hat
    isplitl [Hcr]; · iexact Hcr
    iexact HO
  iintro ⟨HO, Hz, HL⟩
  rw [wp_ret]; imodintro
  iapply Hk
  isplitl [H6]; · iexact H6
  isplitl [H7]; · iexact H7
  isplitl [Hz]; · iexact Hz
  isplitl [HL]; · iexact HL
  iexact HO

end Cert.MoE
-- ==== Proof.PartsC.lean ====
/- The parts of the body that compute for devices 0 and 1. -/
module

public import proofs.«01_k».proof.Proof.Ops

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- Device 0's rows computed and returned. -/
theorem part10 (Q : BitVec 32 → sProp 𝕄) :
    iprop(ctx m K ∗ W2 m c 0 ∗ owesE c (retO c 8))
      ⊢ iprop(((W4 m c 0 ∗ owesE c (retO c 7)) -∗ Q ((Scalar.extui (Scalar.cmpi .ne (v2W c) 1#32) : BitVec 32)))
          -∗ wp frame (wpE (defs₀ (F := F)) 𝒱₀ (c : Thread nD τ) none) Set.univ
              (k0_part10 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (v344 m c) (v346 m c) k0_pay40 (Scalar.extui (Scalar.cmpi .ne (v2W c) 0#32) : BitVec 32) 0#32) Q) := by
  simp only [k0_part10_eq_skeleton]; unfold k0_part10_skel
  simp only [Prog.lift, Prog.bind_op, Prog.bind_ret, Prog.pure_eq_ret]
  iintro ⟨#HC, H0, HO⟩ Hk
  rw [show retO c 8 = retO c 7 + owD 5 c 0 + owD 3 c 0 from rfl]
  iapply (blk_comp m K c 0 (ne_iff 0 c) (above_retO c 7) (sem7 0 _) rfl (pay := k0_pay43 (v344 m c) (v346 m c) k0_pay40) rfl (pay' := k0_pay44 (v344 m c) (v346 m c) k0_pay40) rfl
    (b := k0_cond18 c) (by revert c; decide) (fun _ => Fin.ext k0_dev16_eq) (fun _ => Fin.ext k0_dev17_eq) rfl
    (fun _ => rSlot_off (k0_off18_eq c) _ _) (sem8 0 _) (fun _ => sem9_off (k0_off17_eq c) _) rfl
    (fun _ => tSlot_off (k0_off19_eq c) _ _) (sem10 0 _) (fun _ => sem11_off (k0_off17_eq c) _) rfl) $$ [H0 HO]
  · isplitr; · iexact HC
    isplitl [H0]; · iexact H0
    iexact HO
  iintro ⟨H0, HO⟩
  iapply (blk_fin m c 0 (eq_iff 0 c) (pay := k0_pay45) (fun v => shapeCast_shapeCast v _ _) (pay' := k0_pay46) (fun v => shapeCast_shapeCast v _ _)) $$ H0
  iintro H0
  rw [wp_ret]; imodintro
  iapply Hk
  isplitl [H0]; · iexact H0
  iexact HO

/-- Device 1's. -/
theorem part11 (Q : BitVec 1 → sProp 𝕄) :
    iprop(ctx m K ∗ W2 m c 1 ∗ owesE c (retO c 7))
      ⊢ iprop(((W4 m c 1 ∗ owesE c (retO c 6)) -∗ Q (Scalar.cmpi .ne (v2W c) 2#32))
          -∗ wp frame (wpE (defs₀ (F := F)) 𝒱₀ (c : Thread nD τ) none) Set.univ
              (k0_part11 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (v344 m c) (v346 m c) k0_pay40 (Scalar.extui (Scalar.cmpi .ne (v2W c) 1#32) : BitVec 32)) Q) := by
  simp only [k0_part11_eq_skeleton]; unfold k0_part11_skel
  simp only [Prog.lift, Prog.bind_op, Prog.bind_ret, Prog.pure_eq_ret]
  iintro ⟨#HC, H1, HO⟩ Hk
  rw [show retO c 7 = retO c 6 + owD 5 c 1 + owD 3 c 1 from rfl]
  iapply (blk_comp m K c 1 (ne_iff 1 c) (above_retO c 6) (sem7 1 _) rfl (pay := k0_pay49 (v344 m c) (v346 m c) k0_pay40) rfl (pay' := k0_pay50 (v344 m c) (v346 m c) k0_pay40) rfl
    (b := k0_cond21 c) (by revert c; decide) (fun _ => Fin.ext k0_dev18_eq) (fun _ => Fin.ext k0_dev19_eq) rfl
    (fun _ => rSlot_off (k0_off21_eq c) _ _) (sem8 1 _) (fun _ => sem9_off (k0_off20_eq c) _) rfl
    (fun _ => tSlot_off (k0_off22_eq c) _ _) (sem10 1 _) (fun _ => sem11_off (k0_off20_eq c) _) rfl) $$ [H1 HO]
  · isplitr; · iexact HC
    isplitl [H1]; · iexact H1
    iexact HO
  iintro ⟨H1, HO⟩
  iapply (blk_fin m c 1 (eq_iff 1 c) (pay := k0_pay51) (fun v => shapeCast_shapeCast v _ _) (pay' := k0_pay52) (fun v => shapeCast_shapeCast v _ _)) $$ H1
  iintro H1
  rw [wp_ret]; imodintro
  iapply Hk
  isplitl [H1]; · iexact H1
  iexact HO

end Cert.MoE
-- ==== Proof.PartsD.lean ====
/- The parts of the body that compute for devices 2 and 3. -/
module

public import proofs.«01_k».proof.Proof.Ops

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- Device 2's rows computed and returned. -/
theorem part12 (Q : BitVec 32 → sProp 𝕄) :
    iprop(ctx m K ∗ W2 m c 2 ∗ owesE c (retO c 6))
      ⊢ iprop(((W4 m c 2 ∗ owesE c (retO c 5)) -∗ Q (3#32))
          -∗ wp frame (wpE (defs₀ (F := F)) 𝒱₀ (c : Thread nD τ) none) Set.univ
              (k0_part12 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (v344 m c) (v346 m c) k0_pay40 (Scalar.cmpi .ne (v2W c) 2#32)) Q) := by
  simp only [k0_part12_eq_skeleton]; unfold k0_part12_skel
  simp only [Prog.lift, Prog.bind_op, Prog.bind_ret, Prog.pure_eq_ret]
  iintro ⟨#HC, H2, HO⟩ Hk
  rw [show retO c 6 = retO c 5 + owD 5 c 2 + owD 3 c 2 from rfl]
  iapply (blk_comp m K c 2 (ne_iff 2 c) (above_retO c 5) (sem7 2 _) rfl (pay := k0_pay55 (v344 m c) (v346 m c) k0_pay40) rfl (pay' := k0_pay56 (v344 m c) (v346 m c) k0_pay40) rfl
    (b := k0_cond24 c) (by revert c; decide) (fun _ => Fin.ext k0_dev20_eq) (fun _ => Fin.ext k0_dev21_eq) rfl
    (fun _ => rSlot_off (k0_off24_eq c) _ _) (sem8 2 _) (fun _ => sem9_off (k0_off23_eq c) _) rfl
    (fun _ => tSlot_off (k0_off25_eq c) _ _) (sem10 2 _) (fun _ => sem11_off (k0_off23_eq c) _) rfl) $$ [H2 HO]
  · isplitr; · iexact HC
    isplitl [H2]; · iexact H2
    iexact HO
  iintro ⟨H2, HO⟩
  iapply (blk_fin m c 2 (eq_iff 2 c) (pay := k0_pay57) (fun v => shapeCast_shapeCast v _ _) (pay' := k0_pay58) (fun v => shapeCast_shapeCast v _ _)) $$ H2
  iintro H2
  rw [wp_ret]; imodintro
  iapply Hk
  isplitl [H2]; · iexact H2
  iexact HO

/-- Device 3's. -/
theorem part13 (Q : PUnit → sProp 𝕄) :
    iprop(ctx m K ∗ W2 m c 3 ∗ owesE c (retO c 5))
      ⊢ iprop(((W4 m c 3 ∗ owesE c (retO c 4)) -∗ Q (⟨⟩))
          -∗ wp frame (wpE (defs₀ (F := F)) 𝒱₀ (c : Thread nD τ) none) Set.univ
              (k0_part13 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (v344 m c) (v346 m c) k0_pay40 3#32) Q) := by
  simp only [k0_part13_eq_skeleton]; unfold k0_part13_skel
  simp only [Prog.lift, Prog.bind_op, Prog.bind_ret, Prog.pure_eq_ret]
  iintro ⟨#HC, H3, HO⟩ Hk
  rw [show retO c 5 = retO c 4 + owD 5 c 3 + owD 3 c 3 from rfl]
  iapply (blk_comp m K c 3 (ne_iff 3 c) (above_retO c 4) (sem7 3 _) rfl (pay := k0_pay61 (v344 m c) (v346 m c) k0_pay40) rfl (pay' := k0_pay62 (v344 m c) (v346 m c) k0_pay40) rfl
    (b := k0_cond27 c) (by revert c; decide) (fun _ => Fin.ext k0_dev22_eq) (fun _ => Fin.ext k0_dev23_eq) rfl
    (fun _ => rSlot_off (k0_off27_eq c) _ _) (sem8 3 _) (fun _ => sem9_off (k0_off26_eq c) _) rfl
    (fun _ => tSlot_off (k0_off28_eq c) _ _) (sem10 3 _) (fun _ => sem11_off (k0_off26_eq c) _) rfl) $$ [H3 HO]
  · isplitr; · iexact HC
    isplitl [H3]; · iexact H3
    iexact HO
  iintro ⟨H3, HO⟩
  iapply (blk_fin m c 3 (eq_iff 3 c) (pay := k0_pay63) (fun v => shapeCast_shapeCast v _ _) (pay' := k0_pay64) (fun v => shapeCast_shapeCast v _ _)) $$ H3
  iintro H3
  rw [wp_ret]; imodintro
  iapply Hk
  isplitl [H3]; · iexact H3
  iexact HO

end Cert.MoE
-- ==== Proof.PartsE.lean ====
/- The parts of the body that compute for devices 4 and 5. -/
module

public import proofs.«01_k».proof.Proof.Ops

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- Device 4's rows computed and sent. -/
theorem part14 (Q : BitVec 1 → sProp 𝕄) :
    iprop(ctx m K ∗ W2 m c 4 ∗ owesE c (retO c 4))
      ⊢ iprop(((W3 m c 4 ∗ owesE c (retO c 3)) -∗ Q (Scalar.cmpi .ne (Scalar.extui (Scalar.cmpi .eq (v2W c) 4#32) : BitVec 32) 0#32))
          -∗ wp frame (wpE (defs₀ (F := F)) 𝒱₀ (c : Thread nD τ) none) Set.univ
              (k0_part14 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (v344 m c) (v346 m c) k0_pay40) Q) := by
  simp only [k0_part14_eq_skeleton]; unfold k0_part14_skel
  simp only [Prog.lift, Prog.bind_op, Prog.bind_ret, Prog.pure_eq_ret]
  iintro ⟨#HC, H4, HO⟩ Hk
  rw [show retO c 4 = retO c 3 + owD 5 c 4 + owD 3 c 4 from rfl]
  iapply (blk_comp m K c 4 (ne_iff 4 c) (above_retO c 3) (sem7 4 _) rfl (pay := k0_pay67 (v344 m c) (v346 m c) k0_pay40) rfl (pay' := k0_pay68 (v344 m c) (v346 m c) k0_pay40) rfl
    (b := k0_cond30 c) (by revert c; decide) (fun _ => Fin.ext k0_dev24_eq) (fun _ => Fin.ext k0_dev25_eq) rfl
    (fun _ => rSlot_off (k0_off30_eq c) _ _) (sem8 4 _) (fun _ => sem9_off (k0_off29_eq c) _) rfl
    (fun _ => tSlot_off (k0_off31_eq c) _ _) (sem10 4 _) (fun _ => sem11_off (k0_off29_eq c) _) rfl) $$ [H4 HO]
  · isplitr; · iexact HC
    isplitl [H4]; · iexact H4
    iexact HO
  iintro ⟨H4, HO⟩
  rw [wp_ret]; imodintro
  iapply Hk
  isplitl [H4]; · iexact H4
  iexact HO

/-- Device 4's copied if they are its own; device 5's computed and sent. -/
theorem part15 (Q : (Σ' (v558 : BitVec 32), BitVec 32) → sProp 𝕄) :
    iprop(ctx m K ∗ W3 m c 4 ∗ W2 m c 5 ∗ owesE c (retO c 3))
      ⊢ iprop(((W4 m c 4 ∗ W3 m c 5 ∗ owesE c (retO c 2)) -∗ Q (⟨(Scalar.extui (Scalar.cmpi .eq (v2W c) 5#32) : BitVec 32), 0#32⟩))
          -∗ wp frame (wpE (defs₀ (F := F)) 𝒱₀ (c : Thread nD τ) none) Set.univ
              (k0_part15 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (v344 m c) (v346 m c) k0_pay40 (Scalar.cmpi .ne (Scalar.extui (Scalar.cmpi .eq (v2W c) 4#32) : BitVec 32) 0#32)) Q) := by
  simp only [k0_part15_eq_skeleton]; unfold k0_part15_skel
  simp only [Prog.lift, Prog.bind_op, Prog.bind_ret, Prog.pure_eq_ret]
  iintro ⟨#HC, H4, H5, HO⟩ Hk
  iapply (blk_fin m c 4 (eq_iff 4 c) (pay := k0_pay69) (fun v => shapeCast_shapeCast v _ _) (pay' := k0_pay70) (fun v => shapeCast_shapeCast v _ _)) $$ H4
  iintro H4
  rw [show retO c 3 = retO c 2 + owD 5 c 5 + owD 3 c 5 from rfl]
  iapply (blk_comp m K c 5 (ne_iff 5 c) (above_retO c 2) (sem7 5 _) rfl (pay := k0_pay73 (v344 m c) (v346 m c) k0_pay40) rfl (pay' := k0_pay74 (v344 m c) (v346 m c) k0_pay40) rfl
    (b := k0_cond33 c) (by revert c; decide) (fun _ => Fin.ext k0_dev26_eq) (fun _ => Fin.ext k0_dev27_eq) rfl
    (fun _ => rSlot_off (k0_off33_eq c) _ _) (sem8 5 _) (fun _ => sem9_off (k0_off32_eq c) _) rfl
    (fun _ => tSlot_off (k0_off34_eq c) _ _) (sem10 5 _) (fun _ => sem11_off (k0_off32_eq c) _) rfl) $$ [H5 HO]
  · isplitr; · iexact HC
    isplitl [H5]; · iexact H5
    iexact HO
  iintro ⟨H5, HO⟩
  rw [wp_ret]; imodintro
  iapply Hk
  isplitl [H4]; · iexact H4
  isplitl [H5]; · iexact H5
  iexact HO

end Cert.MoE
-- ==== Proof.PartsF.lean ====
/- The parts of the body that compute for devices 6 and 7. -/
module

public import proofs.«01_k».proof.Proof.Ops

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- Device 5's rows copied if they are its own; device 6's computed and sent. -/
theorem part16 (Q : BitVec 32 → sProp 𝕄) :
    iprop(ctx m K ∗ W3 m c 5 ∗ W2 m c 6 ∗ owesE c (retO c 2))
      ⊢ iprop(((W4 m c 5 ∗ W3 m c 6 ∗ owesE c (retO c 1)) -∗ Q ((Scalar.extui (Scalar.cmpi .eq (v2W c) 6#32) : BitVec 32)))
          -∗ wp frame (wpE (defs₀ (F := F)) 𝒱₀ (c : Thread nD τ) none) Set.univ
              (k0_part16 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (v344 m c) (v346 m c) k0_pay40 (Scalar.extui (Scalar.cmpi .eq (v2W c) 5#32) : BitVec 32) 0#32) Q) := by
  simp only [k0_part16_eq_skeleton]; unfold k0_part16_skel
  simp only [Prog.lift, Prog.bind_op, Prog.bind_ret, Prog.pure_eq_ret]
  iintro ⟨#HC, H5, H6, HO⟩ Hk
  iapply (blk_fin m c 5 (eq_iff 5 c) (pay := k0_pay75) (fun v => shapeCast_shapeCast v _ _) (pay' := k0_pay76) (fun v => shapeCast_shapeCast v _ _)) $$ H5
  iintro H5
  rw [show retO c 2 = retO c 1 + owD 5 c 6 + owD 3 c 6 from rfl]
  iapply (blk_comp m K c 6 (ne_iff 6 c) (above_retO c 1) (sem7 6 _) rfl (pay := k0_pay79 (v344 m c) (v346 m c) k0_pay40) rfl (pay' := k0_pay80 (v344 m c) (v346 m c) k0_pay40) rfl
    (b := k0_cond36 c) (by revert c; decide) (fun _ => Fin.ext k0_dev28_eq) (fun _ => Fin.ext k0_dev29_eq) rfl
    (fun _ => rSlot_off (k0_off36_eq c) _ _) (sem8 6 _) (fun _ => sem9_off (k0_off35_eq c) _) rfl
    (fun _ => tSlot_off (k0_off37_eq c) _ _) (sem10 6 _) (fun _ => sem11_off (k0_off35_eq c) _) rfl) $$ [H6 HO]
  · isplitr; · iexact HC
    isplitl [H6]; · iexact H6
    iexact HO
  iintro ⟨H6, HO⟩
  rw [wp_ret]; imodintro
  iapply Hk
  isplitl [H5]; · iexact H5
  isplitl [H6]; · iexact H6
  iexact HO

/-- Device 6's copied if they are its own; device 7's computed and sent. -/
theorem part17 (Q : BitVec 1 → sProp 𝕄) :
    iprop(ctx m K ∗ W3 m c 6 ∗ W2 m c 7 ∗ owesE c (retO c 1))
      ⊢ iprop(((W4 m c 6 ∗ W3 m c 7 ∗ owesE c (retO c 0)) -∗ Q (Scalar.cmpi .eq (v2W c) 7#32))
          -∗ wp frame (wpE (defs₀ (F := F)) 𝒱₀ (c : Thread nD τ) none) Set.univ
              (k0_part17 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (v344 m c) (v346 m c) k0_pay40 (Scalar.extui (Scalar.cmpi .eq (v2W c) 6#32) : BitVec 32)) Q) := by
  simp only [k0_part17_eq_skeleton]; unfold k0_part17_skel
  simp only [Prog.lift, Prog.bind_op, Prog.bind_ret, Prog.pure_eq_ret]
  iintro ⟨#HC, H6, H7, HO⟩ Hk
  iapply (blk_fin m c 6 (eq_iff 6 c) (pay := k0_pay81) (fun v => shapeCast_shapeCast v _ _) (pay' := k0_pay82) (fun v => shapeCast_shapeCast v _ _)) $$ H6
  iintro H6
  rw [show retO c 1 = retO c 0 + owD 5 c 7 + owD 3 c 7 from rfl]
  iapply (blk_comp m K c 7 (ne_iff 7 c) (above_retO c 0) (sem7 7 _) rfl (pay := k0_pay85 (v344 m c) (v346 m c) k0_pay40) rfl (pay' := k0_pay86 (v344 m c) (v346 m c) k0_pay40) rfl
    (b := k0_cond39 c) (by revert c; decide) (fun _ => Fin.ext k0_dev30_eq) (fun _ => Fin.ext k0_dev31_eq) rfl
    (fun _ => rSlot_off (k0_off39_eq c) _ _) (sem8 7 _) (fun _ => sem9_off (k0_off38_eq c) _) rfl
    (fun _ => tSlot_off (k0_off40_eq c) _ _) (sem10 7 _) (fun _ => sem11_off (k0_off38_eq c) _) rfl) $$ [H7 HO]
  · isplitr; · iexact HC
    isplitl [H7]; · iexact H7
    iexact HO
  iintro ⟨H7, HO⟩
  rw [wp_ret]; imodintro
  iapply Hk
  isplitl [H6]; · iexact H6
  isplitl [H7]; · iexact H7
  iexact HO

end Cert.MoE
-- ==== Proof.PartsG.lean ====
/- The parts of the body that receive the results and add them up. -/
module

public import proofs.«01_k».proof.Proof.Ops

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- The last device's rows copied if they are the own ones; then the results of devices 0 and 1 received and added, and those of device 2 received. -/
theorem part18 (Q : (Σ' (v655 : FVec F S512x512 .f32), Vec F S1x128x512 .i8) → sProp 𝕄) :
    iprop(ctx m K ∗ W3 m c 7 ∗ W4 m c 0 ∗ W4 m c 1 ∗ W4 m c 2 ∗ owesE c 0)
      ⊢ iprop(((W4 m c 7 ∗ W5 m c 0 ∗ W5 m c 1 ∗ W5 m c 2 ∗ owesE c 0) -∗ Q (⟨v655 m c, rL m c 2⟩))
          -∗ wp frame (wpE (defs₀ (F := F)) 𝒱₀ (c : Thread nD τ) none) Set.univ
              (k0_part18 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 (v2W c) (ddPay m c 0) (ddPay m c 1) (v342 m c) (Scalar.cmpi .eq (v2W c) 7#32)) Q) := by
  unfold v655
  simp only [k0_part18_eq_skeleton]; unfold k0_part18_skel
  simp only [Prog.lift, Prog.bind_op, Prog.bind_ret, Prog.pure_eq_ret]
  iintro ⟨#HC, H7, H0, H1, H2, HO⟩ Hk
  iapply (blk_fin m c 7 (eq_iff 7 c) (pay := k0_pay87) (fun v => shapeCast_shapeCast v _ _) (pay' := k0_pay88) (fun v => shapeCast_shapeCast v _ _)) $$ H7
  iintro H7
  iapply (blk_back m K c 0 (ne_iff 0 c) (sem9 0 _) rfl (sem11 0 _) rfl) $$ [H0 HO]
  · isplitr; · iexact HC
    isplitl [H0]; · iexact H0
    iexact HO
  iintro ⟨H0, HO⟩
  iapply (ld_back m c 0) $$ H0; iintro H0
  iapply (ld_scale m c 0) $$ H0; iintro H0
  iapply (blk_back m K c 1 (ne_iff 1 c) (sem9 1 _) rfl (sem11 1 _) rfl) $$ [H1 HO]
  · isplitr; · iexact HC
    isplitl [H1]; · iexact H1
    iexact HO
  iintro ⟨H1, HO⟩
  iapply (ld_back m c 1) $$ H1; iintro H1
  iapply (ld_scale m c 1) $$ H1; iintro H1
  iapply (blk_back m K c 2 (ne_iff 2 c) (sem9 2 _) rfl (sem11 2 _) rfl) $$ [H2 HO]
  · isplitr; · iexact HC
    isplitl [H2]; · iexact H2
    iexact HO
  iintro ⟨H2, HO⟩
  iapply (ld_back m c 2) $$ H2; iintro H2
  rw [wp_ret]; imodintro
  iapply Hk
  isplitl [H7]; · iexact H7
  isplitl [H0]; · iexact H0
  isplitl [H1]; · iexact H1
  isplitl [H2]; · iexact H2
  iexact HO

/-- The results of devices 2 to 4 added. -/
theorem part19 (Q : (Σ' (v694 : FVec F S512x512 .f32), BitVec 32) → sProp 𝕄) :
    iprop(ctx m K ∗ W5 m c 2 ∗ W4 m c 3 ∗ W4 m c 4 ∗ owesE c 0)
      ⊢ iprop(((W5 m c 2 ∗ W5 m c 3 ∗ W5 m c 4 ∗ owesE c 0) -∗ Q (⟨v694 m c, 5#32⟩))
          -∗ wp frame (wpE (defs₀ (F := F)) 𝒱₀ (c : Thread nD τ) none) Set.univ
              (k0_part19 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 (v2W c) (ddPay m c 2) (ddPay m c 3) (ddPay m c 4) (v655 m c) (rL m c 2)) Q) := by
  unfold v694
  simp only [k0_part19_eq_skeleton]; unfold k0_part19_skel
  simp only [Prog.lift, Prog.bind_op, Prog.bind_ret, Prog.pure_eq_ret]
  iintro ⟨#HC, H2, H3, H4, HO⟩ Hk
  iapply (ld_scale m c 2) $$ H2; iintro H2
  iapply (blk_back m K c 3 (ne_iff 3 c) (sem9 3 _) rfl (sem11 3 _) rfl) $$ [H3 HO]
  · isplitr; · iexact HC
    isplitl [H3]; · iexact H3
    iexact HO
  iintro ⟨H3, HO⟩
  iapply (ld_back m c 3) $$ H3; iintro H3
  iapply (ld_scale m c 3) $$ H3; iintro H3
  iapply (blk_back m K c 4 (ne_iff 4 c) (sem9 4 _) rfl (sem11 4 _) rfl) $$ [H4 HO]
  · isplitr; · iexact HC
    isplitl [H4]; · iexact H4
    iexact HO
  iintro ⟨H4, HO⟩
  iapply (ld_back m c 4) $$ H4; iintro H4
  iapply (ld_scale m c 4) $$ H4; iintro H4
  rw [wp_ret]; imodintro
  iapply Hk
  isplitl [H2]; · iexact H2
  isplitl [H3]; · iexact H3
  isplitl [H4]; · iexact H4
  iexact HO

/-- The results of devices 5 and 6 added, those of device 7 received. -/
theorem part20 (Q : (Σ' (v720 : FVec F S512x512 .f32), FVec F S128x512 .f32) → sProp 𝕄) :
    iprop(ctx m K ∗ W4 m c 5 ∗ W4 m c 6 ∗ W4 m c 7 ∗ owesE c 0)
      ⊢ iprop(((W5 m c 5 ∗ W5 m c 6 ∗ W5 m c 7 ∗ owesE c 0) -∗ Q (⟨v720 m c, k0_pay92 (rL m c 7)⟩))
          -∗ wp frame (wpE (defs₀ (F := F)) 𝒱₀ (c : Thread nD τ) none) Set.univ
              (k0_part20 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 (v2W c) (ddPay m c 5) (ddPay m c 6) (v694 m c) 5#32) Q) := by
  unfold v720
  simp only [k0_part20_eq_skeleton]; unfold k0_part20_skel
  simp only [Prog.lift, Prog.bind_op, Prog.bind_ret, Prog.pure_eq_ret]
  iintro ⟨#HC, H5, H6, H7, HO⟩ Hk
  iapply (blk_back m K c 5 (ne_iff 5 c) (sem9 5 _) rfl (sem11 5 _) rfl) $$ [H5 HO]
  · isplitr; · iexact HC
    isplitl [H5]; · iexact H5
    iexact HO
  iintro ⟨H5, HO⟩
  iapply (ld_back m c 5) $$ H5; iintro H5
  iapply (ld_scale m c 5) $$ H5; iintro H5
  iapply (blk_back m K c 6 (ne_iff 6 c) (sem9 6 _) rfl (sem11 6 _) rfl) $$ [H6 HO]
  · isplitr; · iexact HC
    isplitl [H6]; · iexact H6
    iexact HO
  iintro ⟨H6, HO⟩
  iapply (ld_back m c 6) $$ H6; iintro H6
  iapply (ld_scale m c 6) $$ H6; iintro H6
  iapply (blk_back m K c 7 (ne_iff 7 c) (sem9 7 _) rfl (sem11 7 _) rfl) $$ [H7 HO]
  · isplitr; · iexact HC
    isplitl [H7]; · iexact H7
    iexact HO
  iintro ⟨H7, HO⟩
  iapply (ld_back m c 7) $$ H7; iintro H7
  rw [wp_ret]; imodintro
  iapply Hk
  isplitl [H5]; · iexact H5
  isplitl [H6]; · iexact H6
  isplitl [H7]; · iexact H7
  iexact HO

end Cert.MoE
-- ==== Proof.PartsA.lean ====
/- The first parts of the body: the signals, and the inputs read. -/
module

public import proofs.«01_k».proof.Proof.Ops

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- What device `c` signals its `n`-th next neighbour with: its landing slots for it, and its token there. -/
def S (c n : Fin 8) : sProp 𝕄 := iprop(land c (c + n) ∗ dutyTok ER (barCell (c + n)) 0 c)

theorem hz : (![0, 0] : Fin 2 → Nat) = fun _ => 0 := funext fun a => by fin_cases a <;> rfl
theorem read_x (f : S512x256.Idx → Elt F .bf16) : xM.view.readAt (Elt F) (Rect.unit (s := S512x256) ![0, 0] S512x256.size inb_S512x256_S512x256_0_0).toLoadRect f = f :=
  Memref.readAt_unit_zero (Elt F) cc0_stg0_0 hz _ f
theorem read_rt (f : S512x1.Idx → Elt F .i32) : rtM.view.readAt (Elt F) (Rect.unit (s := S512x1) ![0, 0] S512x1.size inb_S512x1_S512x1_0_0).toLoadRect f = f :=
  Memref.readAt_unit_zero (Elt F) cc0_stg2_0 hz _ f
theorem read_rw (f : S256x16.Idx → Elt F .bf16) : rwM.view.readAt (Elt F) (Rect.unit (s := S256x16) ![0, 0] S256x16.size inb_S256x16_S256x16_0_0).toLoadRect f = f :=
  Memref.readAt_unit_zero (Elt F) cc0_stg1_0 hz _ f
theorem read_sw (f : S256x512.Idx → Elt F .bf16) : swM.view.readAt (Elt F) (Rect.unit (s := S256x512) ![0, 0] S256x512.size inb_S256x512_S256x512_0_0).toLoadRect f = f :=
  Memref.readAt_unit_zero (Elt F) cc0_stg4_0 hz _ f

/-- The signals to the next five devices. -/
theorem part1 (Q : (Σ' (d0 : Dev nD) (v2 : BitVec 32) (v3 : Sems sig S_) (v24 : BitVec 32), BitVec 32) → sProp 𝕄) :
    iprop(ctx m K ∗ S c 1 ∗ S c 2 ∗ S c 3 ∗ S c 4 ∗ S c 5 ∗ owesE c (sigO c 7))
      ⊢ iprop(((owesE c (sigO c 2)) -∗ Q (⟨c, v2W c, SemArray.scalar (sig.barrier 0 rfl), Scalar.addi (v2W c) 6#32, 8#32⟩))
          -∗ wp frame (wpE (defs₀ (F := F)) 𝒱₀ (c : Thread nD τ) none) Set.univ
              (k0_part1 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 ) Q) := by
  simp only [k0_part1_eq_skeleton]; unfold k0_part1_skel
  simp only [semSignalWord, semWaitWord, Prog.lift, Prog.bind_op, Prog.bind_ret, Prog.pure_eq_ret, wp_deviceId]
  unfold S
  iintro ⟨#HC, ⟨HL1, HT1⟩, ⟨HL2, HT2⟩, ⟨HL3, HT3⟩, ⟨HL4, HT4⟩, ⟨HL5, HT5⟩, HO⟩ Hk
  rw [show sigO c 7 = sigO c 6 + owB c (c + 1) from rfl]
  iapply (wp_sig m K c (p := c + 1) (n := ⟨k0_dev1 c, k0_dev1_lt c⟩) (Fin.ext (k0_dev1_eq c)) (by revert c; decide)) $$ [HL1 HT1 HO]
  · isplitr; · iexact HC
    isplitl [HL1]; · iexact HL1
    isplitl [HT1]; · iexact HT1
    iexact HO
  iintro HO
  rw [show sigO c 6 = sigO c 5 + owB c (c + 2) from rfl]
  iapply (wp_sig m K c (p := c + 2) (n := ⟨k0_dev2 c, k0_dev2_lt c⟩) (Fin.ext (k0_dev2_eq c)) (by revert c; decide)) $$ [HL2 HT2 HO]
  · isplitr; · iexact HC
    isplitl [HL2]; · iexact HL2
    isplitl [HT2]; · iexact HT2
    iexact HO
  iintro HO
  rw [show sigO c 5 = sigO c 4 + owB c (c + 3) from rfl]
  iapply (wp_sig m K c (p := c + 3) (n := ⟨k0_dev3 c, k0_dev3_lt c⟩) (Fin.ext (k0_dev3_eq c)) (by revert c; decide)) $$ [HL3 HT3 HO]
  · isplitr; · iexact HC
    isplitl [HL3]; · iexact HL3
    isplitl [HT3]; · iexact HT3
    iexact HO
  iintro HO
  rw [show sigO c 4 = sigO c 3 + owB c (c + 4) from rfl]
  iapply (wp_sig m K c (p := c + 4) (n := ⟨k0_dev4 c, k0_dev4_lt c⟩) (Fin.ext (k0_dev4_eq c)) (by revert c; decide)) $$ [HL4 HT4 HO]
  · isplitr; · iexact HC
    isplitl [HL4]; · iexact HL4
    isplitl [HT4]; · iexact HT4
    iexact HO
  iintro HO
  rw [show sigO c 3 = sigO c 2 + owB c (c + 5) from rfl]
  iapply (wp_sig m K c (p := c + 5) (n := ⟨k0_dev5 c, k0_dev5_lt c⟩) (Fin.ext (k0_dev5_eq c)) (by revert c; decide)) $$ [HL5 HT5 HO]
  · isplitr; · iexact HC
    isplitl [HL5]; · iexact HL5
    isplitl [HT5]; · iexact HT5
    iexact HO
  iintro HO
  rw [wp_ret]; imodintro
  iapply Hk
  iexact HO

/-- The other two signals; the tokens' rows, routes and the router's weights read. -/
theorem part2 (Q : (Σ' (v33 : FVec F S512x256 .bf16) (v35 : IVec S512x1 32) (v53 : FVec F S512x16 .f32) (v60 : FVec F S512x256 .bf16), IVec S512x512 32) → sProp 𝕄) :
    iprop(ctx m K ∗ S c 6 ∗ S c 7 ∗ (((c : Thread nD τ).loc cc0_stg0_0) ↦{fullShare} xS m c) ∗ (((c : Thread nD τ).loc cc0_stg2_0) ↦{fullShare} rtS m c) ∗ (((c : Thread nD τ).loc cc0_stg1_0) ↦{fullShare} rwS m c) ∗ owesE c (sigO c 2))
      ⊢ iprop((((((c : Thread nD τ).loc cc0_stg0_0) ↦{fullShare} xS m c) ∗ (((c : Thread nD τ).loc cc0_stg2_0) ↦{fullShare} rtS m c) ∗ (((c : Thread nD τ).loc cc0_stg1_0) ↦{fullShare} rwS m c) ∗ owesE c (dspO c 8)) -∗ Q (⟨v33 m c, v35 m c, v53 m c, v60 m c, k0_pay5⟩))
          -∗ wp frame (wpE (defs₀ (F := F)) 𝒱₀ (c : Thread nD τ) none) Set.univ
              (k0_part2 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (SemArray.scalar (sig.barrier 0 rfl)) (Scalar.addi (v2W c) 6#32) 8#32) Q) := by
  simp only [k0_part2_eq_skeleton]; unfold k0_part2_skel
  simp only [semSignalWord, semWaitWord, Prog.lift, Prog.bind_op, Prog.bind_ret, Prog.pure_eq_ret, wp_deviceId]
  unfold S v33 v35 v53 v60
  iintro ⟨#HC, ⟨HL6, HT6⟩, ⟨HL7, HT7⟩, Hx, Hrt, Hrw, HO⟩ Hk
  rw [show sigO c 2 = sigO c 1 + owB c (c + 6) from rfl]
  iapply (wp_sig m K c (p := c + 6) (n := ⟨k0_dev6 c, k0_dev6_lt c⟩) (Fin.ext (k0_dev6_eq c)) (by revert c; decide)) $$ [HL6 HT6 HO]
  · isplitr; · iexact HC
    isplitl [HL6]; · iexact HL6
    isplitl [HT6]; · iexact HT6
    iexact HO
  iintro HO
  rw [show sigO c 1 = sigO c 0 + owB c (c + 7) from rfl]
  iapply (wp_sig m K c (p := c + 7) (n := ⟨k0_dev7 c, k0_dev7_lt c⟩) (Fin.ext (k0_dev7_eq c)) (by revert c; decide)) $$ [HL7 HT7 HO]
  · isplitr; · iexact HC
    isplitl [HL7]; · iexact HL7
    isplitl [HT7]; · iexact HT7
    iexact HO
  iintro HO
  iapply (wp_load 𝒱₀ (c : Thread nD τ) none Set.univ (m := xM) (Finset.subset_univ _)) $$ Hx; iintro Hx
  rw [read_x]
  iapply (wp_load 𝒱₀ (c : Thread nD τ) none Set.univ (m := rtM) (Finset.subset_univ _)) $$ Hrt; iintro Hrt
  rw [read_rt]
  iapply (wp_load 𝒱₀ (c : Thread nD τ) none Set.univ (m := rwM) (Finset.subset_univ _)) $$ Hrw; iintro Hrw
  rw [read_rw]
  rw [show sigO c 0 = dspO c 8 from rfl]
  rw [wp_ret]; imodintro
  iapply Hk
  isplitl [Hx]; · iexact Hx
  isplitl [Hrt]; · iexact Hrt
  isplitl [Hrw]; · iexact Hrw
  iexact HO

theorem part3 (Q : (Σ' (v66 : FVec F S512x16 .f32) (v91 : IVec S1x128 32) (v107 : IVec S1x128 32), IVec S1x128 32) → sProp 𝕄) :
    Q ⟨v66 m c, k0_pay7, k0_pay8, k0_pay9⟩
      ⊢ wp frame (wpE (defs₀ (F := F)) 𝒱₀ (c : Thread nD τ) none) Set.univ
              (k0_part3 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 (v53 m c) k0_pay5) Q := by
  simp only [k0_part3_eq_skeleton]; unfold k0_part3_skel v66
  rw [Prog.pure_eq_ret, wp_ret]
  iintro H; imodintro; iexact H

end Cert.MoE
-- ==== Proof.PartsH.lean ====
/- The last part of the body. -/
module

public import proofs.«01_k».proof.Proof.PartsA

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- The last addition and the result's store; then everything sent awaited. -/
theorem part21 (Q : PUnit → sProp 𝕄) :
    iprop(ctx m K ∗ W5 m c 0 ∗ W5 m c 1 ∗ W5 m c 2 ∗ W5 m c 3 ∗ W5 m c 4 ∗ W5 m c 5 ∗ W5 m c 6 ∗ W5 m c 7 ∗ (∃ f, (((c : Thread nD τ).loc cc0_stg5_0) ↦{fullShare} f)) ∗ owesE c 0)
      ⊢ iprop(((W6 m c 0 ∗ W6 m c 1 ∗ W6 m c 2 ∗ W6 m c 3 ∗ W6 m c 4 ∗ W6 m c 5 ∗ W6 m c 6 ∗ W6 m c 7 ∗ (((c : Thread nD τ).loc cc0_stg5_0) ↦{fullShare} outAt m c) ∗ owesE c 0) -∗ Q (⟨⟩))
          -∗ wp frame (wpE (defs₀ (F := F)) 𝒱₀ (c : Thread nD τ) none) Set.univ
              (k0_part21 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (ddPay m c 7) (v720 m c) (k0_pay92 (rL m c 7))) Q) := by
  simp only [k0_part21_eq_skeleton]; unfold k0_part21_skel
  simp only [semSignalWord, semWaitWord, Prog.lift, Prog.bind_op, Prog.bind_ret, Prog.pure_eq_ret, wp_deviceId]
  iintro ⟨#HC, H0, H1, H2, H3, H4, H5, H6, H7, ⟨%g, Hout⟩, HO⟩ Hk
  iapply (ld_scale m c 7) $$ H7; iintro H7
  iapply (wp_load 𝒱₀ (c : Thread nD τ) none Set.univ (m := oM) (Finset.subset_univ _)) $$ Hout; iintro Hout
  iapply (wp_store 𝒱₀ (c : Thread nD τ) none Set.univ (m := oM) (r := Rect.unit (s := S512x512) ![0, 0] S512x512.size inb_S512x512_S512x512_0_0) (Mk := Finset.univ) (Finset.subset_univ _)) $$ Hout; iintro Hout
  rw [show (oM.access (Rect.unit (s := S512x512) ![0, 0] S512x512.size inb_S512x512_S512x512_0_0)).write (Elt F) g (k0_pay93 (ddPay m c 7) (v720 m c) (k0_pay92 (rL m c 7)) (tL m c 7)) Finset.univ = outAt m c
    from Memref.write_access_unit_zero_univ (Elt F) cc0_stg5_0 hz _ g _]
  iapply (blk_end m K c 0 ((by decide : ∀ c : Dev nD, k0_cond49 c = 1#1 ↔ (0 : Fin 8) ≠ c) c) (sem6 0 _) rfl (sem8 0 _) rfl (sem10 0 _) rfl) $$ [H0 HO]
  · isplitr; · iexact HC
    isplitl [H0]; · iexact H0
    iexact HO
  iintro ⟨H0, HO⟩
  iapply (blk_end m K c 1 ((by decide : ∀ c : Dev nD, k0_cond50 c = 1#1 ↔ (1 : Fin 8) ≠ c) c) (sem6 1 _) rfl (sem8 1 _) rfl (sem10 1 _) rfl) $$ [H1 HO]
  · isplitr; · iexact HC
    isplitl [H1]; · iexact H1
    iexact HO
  iintro ⟨H1, HO⟩
  iapply (blk_end m K c 2 ((by decide : ∀ c : Dev nD, k0_cond51 c = 1#1 ↔ (2 : Fin 8) ≠ c) c) (sem6 2 _) rfl (sem8 2 _) rfl (sem10 2 _) rfl) $$ [H2 HO]
  · isplitr; · iexact HC
    isplitl [H2]; · iexact H2
    iexact HO
  iintro ⟨H2, HO⟩
  iapply (blk_end m K c 3 ((by decide : ∀ c : Dev nD, k0_cond52 c = 1#1 ↔ (3 : Fin 8) ≠ c) c) (sem6 3 _) rfl (sem8 3 _) rfl (sem10 3 _) rfl) $$ [H3 HO]
  · isplitr; · iexact HC
    isplitl [H3]; · iexact H3
    iexact HO
  iintro ⟨H3, HO⟩
  iapply (blk_end m K c 4 ((by decide : ∀ c : Dev nD, k0_cond53 c = 1#1 ↔ (4 : Fin 8) ≠ c) c) (sem6 4 _) rfl (sem8 4 _) rfl (sem10 4 _) rfl) $$ [H4 HO]
  · isplitr; · iexact HC
    isplitl [H4]; · iexact H4
    iexact HO
  iintro ⟨H4, HO⟩
  iapply (blk_end m K c 5 ((by decide : ∀ c : Dev nD, k0_cond54 c = 1#1 ↔ (5 : Fin 8) ≠ c) c) (sem6 5 _) rfl (sem8 5 _) rfl (sem10 5 _) rfl) $$ [H5 HO]
  · isplitr; · iexact HC
    isplitl [H5]; · iexact H5
    iexact HO
  iintro ⟨H5, HO⟩
  iapply (blk_end m K c 6 ((by decide : ∀ c : Dev nD, k0_cond55 c = 1#1 ↔ (6 : Fin 8) ≠ c) c) (sem6 6 _) rfl (sem8 6 _) rfl (sem10 6 _) rfl) $$ [H6 HO]
  · isplitr; · iexact HC
    isplitl [H6]; · iexact H6
    iexact HO
  iintro ⟨H6, HO⟩
  iapply (blk_end m K c 7 ((by decide : ∀ c : Dev nD, k0_cond56 c = 1#1 ↔ (7 : Fin 8) ≠ c) c) (sem6 7 _) rfl (sem8 7 _) rfl (sem10 7 _) rfl) $$ [H7 HO]
  · isplitr; · iexact HC
    isplitl [H7]; · iexact H7
    iexact HO
  iintro ⟨H7, HO⟩
  rw [wp_ret]; imodintro
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hout]; · iexact Hout
  iexact HO

end Cert.MoE
-- ==== Proof.PartsS.lean ====
/- The parts of the body that dispatch. -/
module

public import proofs.«01_k».proof.Proof.PartsA

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

/-- The dispatch to devices 0 to 4. -/
theorem part8 (Q : PUnit → sProp 𝕄) :
    iprop(ctx m K ∗ W1 m c 0 ∗ W1 m c 1 ∗ W1 m c 2 ∗ W1 m c 3 ∗ W1 m c 4 ∗ owesE c (dspO c 8))
      ⊢ iprop(((W2 m c 0 ∗ W2 m c 1 ∗ W2 m c 2 ∗ W2 m c 3 ∗ W2 m c 4 ∗ owesE c (dspO c 3)) -∗ Q (⟨⟩))
          -∗ wp frame (wpE (defs₀ (F := F)) 𝒱₀ (c : Thread nD τ) none) Set.univ
              (k0_part8 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c)) Q) := by
  simp only [k0_part8_eq_skeleton]; unfold k0_part8_skel
  simp only [semSignalWord, semWaitWord, Prog.lift, Prog.bind_op, Prog.bind_ret, Prog.pure_eq_ret, wp_deviceId]
  iintro ⟨#HC, H0, H1, H2, H3, H4, HO⟩ Hk
  rw [show dspO c 8 = dspO c 7 + owD 1 c 0 from rfl]
  iapply (blk_send m K c 0 (b := k0_cond1 c) (by revert c; decide) (fun _ => Fin.ext k0_dev8_eq) rfl (fun _ => bSlot_off (k0_off2_eq c) _ _) (sem6 0 _)
    (fun _ => sem7_off (k0_off1_eq c) _) (eq_iff 0 c) (pay := k0_pay29) (fun v => shapeCast_shapeCast v _ _) rfl) $$ [H0 HO]
  · isplitr; · iexact HC
    isplitl [H0]; · iexact H0
    iexact HO
  iintro ⟨H0, HO⟩
  rw [show dspO c 7 = dspO c 6 + owD 1 c 1 from rfl]
  iapply (blk_send m K c 1 (b := k0_cond3 c) (by revert c; decide) (fun _ => Fin.ext k0_dev9_eq) rfl (fun _ => bSlot_off (k0_off4_eq c) _ _) (sem6 1 _)
    (fun _ => sem7_off (k0_off3_eq c) _) (eq_iff 1 c) (pay := k0_pay30) (fun v => shapeCast_shapeCast v _ _) rfl) $$ [H1 HO]
  · isplitr; · iexact HC
    isplitl [H1]; · iexact H1
    iexact HO
  iintro ⟨H1, HO⟩
  rw [show dspO c 6 = dspO c 5 + owD 1 c 2 from rfl]
  iapply (blk_send m K c 2 (b := k0_cond5 c) (by revert c; decide) (fun _ => Fin.ext k0_dev10_eq) rfl (fun _ => bSlot_off (k0_off6_eq c) _ _) (sem6 2 _)
    (fun _ => sem7_off (k0_off5_eq c) _) (eq_iff 2 c) (pay := k0_pay31) (fun v => shapeCast_shapeCast v _ _) rfl) $$ [H2 HO]
  · isplitr; · iexact HC
    isplitl [H2]; · iexact H2
    iexact HO
  iintro ⟨H2, HO⟩
  rw [show dspO c 5 = dspO c 4 + owD 1 c 3 from rfl]
  iapply (blk_send m K c 3 (b := k0_cond7 c) (by revert c; decide) (fun _ => Fin.ext k0_dev11_eq) rfl (fun _ => bSlot_off (k0_off8_eq c) _ _) (sem6 3 _)
    (fun _ => sem7_off (k0_off7_eq c) _) (eq_iff 3 c) (pay := k0_pay32) (fun v => shapeCast_shapeCast v _ _) rfl) $$ [H3 HO]
  · isplitr; · iexact HC
    isplitl [H3]; · iexact H3
    iexact HO
  iintro ⟨H3, HO⟩
  rw [show dspO c 4 = dspO c 3 + owD 1 c 4 from rfl]
  iapply (blk_send m K c 4 (b := k0_cond9 c) (by revert c; decide) (fun _ => Fin.ext k0_dev12_eq) rfl (fun _ => bSlot_off (k0_off10_eq c) _ _) (sem6 4 _)
    (fun _ => sem7_off (k0_off9_eq c) _) (eq_iff 4 c) (pay := k0_pay33) (fun v => shapeCast_shapeCast v _ _) rfl) $$ [H4 HO]
  · isplitr; · iexact HC
    isplitl [H4]; · iexact H4
    iexact HO
  iintro ⟨H4, HO⟩
  rw [wp_ret]; imodintro
  iapply Hk
  isplitl [H0]; · iexact H0
  isplitl [H1]; · iexact H1
  isplitl [H2]; · iexact H2
  isplitl [H3]; · iexact H3
  isplitl [H4]; · iexact H4
  iexact HO

/-- The dispatch to devices 5 to 7; the shared expert's product, and the experts' weights read. -/
theorem part9 (Q : (Σ' (v342 : FVec F S512x512 .f32) (v344 : FVec F S256x512 .bf16) (v346 : FVec F S256x512 .bf16) (v349 : IVec S128x1 1) (v351 : BitVec 32), BitVec 32) → sProp 𝕄) :
    iprop(ctx m K ∗ W1 m c 5 ∗ W1 m c 6 ∗ W1 m c 7 ∗ (((c : Thread nD τ).loc cc0_stg3_0) ↦{fullShare} ewS m c) ∗ (((c : Thread nD τ).loc cc0_stg4_0) ↦{fullShare} swS m c) ∗ owesE c (dspO c 3))
      ⊢ iprop(((W2 m c 5 ∗ W2 m c 6 ∗ W2 m c 7 ∗ (((c : Thread nD τ).loc cc0_stg3_0) ↦{fullShare} ewS m c) ∗ (((c : Thread nD τ).loc cc0_stg4_0) ↦{fullShare} swS m c) ∗ owesE c (retO c 8)) -∗ Q (⟨v342 m c, v344 m c, v346 m c, k0_pay40, (Scalar.extui (Scalar.cmpi .ne (v2W c) 0#32) : BitVec 32), 0#32⟩))
          -∗ wp frame (wpE (defs₀ (F := F)) 𝒱₀ (c : Thread nD τ) none) Set.univ
              (k0_part9 xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11 c (v2W c) (v33 m c)) Q) := by
  simp only [k0_part9_eq_skeleton]; unfold k0_part9_skel
  simp only [semSignalWord, semWaitWord, Prog.lift, Prog.bind_op, Prog.bind_ret, Prog.pure_eq_ret, wp_deviceId]
  unfold v342 v344 v346
  iintro ⟨#HC, H5, H6, H7, Hew, Hsw, HO⟩ Hk
  rw [show dspO c 3 = dspO c 2 + owD 1 c 5 from rfl]
  iapply (blk_send m K c 5 (b := k0_cond11 c) (by revert c; decide) (fun _ => Fin.ext k0_dev13_eq) rfl (fun _ => bSlot_off (k0_off12_eq c) _ _) (sem6 5 _)
    (fun _ => sem7_off (k0_off11_eq c) _) (eq_iff 5 c) (pay := k0_pay34) (fun v => shapeCast_shapeCast v _ _) rfl) $$ [H5 HO]
  · isplitr; · iexact HC
    isplitl [H5]; · iexact H5
    iexact HO
  iintro ⟨H5, HO⟩
  rw [show dspO c 2 = dspO c 1 + owD 1 c 6 from rfl]
  iapply (blk_send m K c 6 (b := k0_cond13 c) (by revert c; decide) (fun _ => Fin.ext k0_dev14_eq) rfl (fun _ => bSlot_off (k0_off14_eq c) _ _) (sem6 6 _)
    (fun _ => sem7_off (k0_off13_eq c) _) (eq_iff 6 c) (pay := k0_pay35) (fun v => shapeCast_shapeCast v _ _) rfl) $$ [H6 HO]
  · isplitr; · iexact HC
    isplitl [H6]; · iexact H6
    iexact HO
  iintro ⟨H6, HO⟩
  rw [show dspO c 1 = dspO c 0 + owD 1 c 7 from rfl]
  iapply (blk_send m K c 7 (b := k0_cond15 c) (by revert c; decide) (fun _ => Fin.ext k0_dev15_eq) rfl (fun _ => bSlot_off (k0_off16_eq c) _ _) (sem6 7 _)
    (fun _ => sem7_off (k0_off15_eq c) _) (eq_iff 7 c) (pay := k0_pay36) (fun v => shapeCast_shapeCast v _ _) rfl) $$ [H7 HO]
  · isplitr; · iexact HC
    isplitl [H7]; · iexact H7
    iexact HO
  iintro ⟨H7, HO⟩
  iapply (wp_load 𝒱₀ (c : Thread nD τ) none Set.univ (m := swM) (Finset.subset_univ _)) $$ Hsw; iintro Hsw
  rw [read_sw]
  iapply (wp_load 𝒱₀ (c : Thread nD τ) none Set.univ (m := ewM) (Finset.subset_univ _)) $$ Hew; iintro Hew
  iapply (wp_load 𝒱₀ (c : Thread nD τ) none Set.univ (m := ewM) (Finset.subset_univ _)) $$ Hew; iintro Hew
  rw [show dspO c 0 = retO c 8 from rfl]
  rw [wp_ret]; imodintro
  iapply Hk
  isplitl [H5]; · iexact H5
  isplitl [H6]; · iexact H6
  isplitl [H7]; · iexact H7
  isplitl [Hew]; · iexact Hew
  isplitl [Hsw]; · iexact Hsw
  iexact HO

end Cert.MoE
-- ==== Proof.Body.lean ====
/- The body of the kernel on one device, its parts composed. -/
module

public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.PartsH
public import proofs.«01_k».proof.Proof.PartsS

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × CI → ℕ) (c : Dev nD)

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- What device `c` holds for device `d` at the start, beside its slots of the dispatch and of the landing buffers. -/
def Y1 (d : Dev nD) : sProp 𝕄 := iprop(tokA c d ∗ (at0 1 c d ∗ credO 1 c d ∗ (∃ f, pPts c d f) ∗ (∃ f, uPts c d f) ∗ tokP c d ∗ tokU c d) ∗ X3 c d ∗ X0 c d)

/-- With the rows gathered and the landing slots on `d` handed over, the dispatch to `d` can start. -/
theorem mkW1 (d : Dev nD) : iprop(aPts c d (aC m c) ∗ land d c ∗ Y1 c d) ⊢ W1 m c d := by
  unfold land Y1 W1 X1
  iintro ⟨Ha, ⟨Hb, Hr, Ht⟩, HA, ⟨Hat, Hcr, Hp, Hu, HP, HU⟩, HX⟩
  isplitl [Ha Hb HA]
  · isplitl [Ha]; · iexact Ha
    isplitl [Hb]; · iexact Hb
    iexact HA
  isplitr [HX]
  · isplitl [Hat]; · iexact Hat
    isplitl [Hcr]; · iexact Hcr
    isplitl [Hp]; · iexact Hp
    isplitl [Hu]; · iexact Hu
    isplitl [Hr]; · iexact Hr
    isplitl [Ht]; · iexact Ht
    isplitl [HP]; · iexact HP
    iexact HU
  iexact HX

/-- The seven other devices' landing slots and the own ones: all. -/
theorem land_all : iprop((bigSep (Finset.univ.erase (c : Fin 8)) fun p => land (F := F) p c) ∗ land c c) ⊢ bigSep Finset.univ fun p : Fin 8 => land (F := F) p c := by
  have h := bigSep_erase (Finset.mem_univ (c : Fin 8)) (Φ := fun p : Fin 8 => land (F := F) p c)
  change _ = iprop(land (F := F) c c ∗ bigSep (Finset.univ.erase (c : Fin 8)) fun p : Fin 8 => land (F := F) p c) at h
  rw [h]
  iintro ⟨H, H'⟩
  isplitl [H']; · iexact H'
  iexact H

/-- The inputs, staged. -/
def ins : sProp 𝕄 := iprop((((c : Thread nD τ).loc cc0_stg0_0) ↦{fullShare} xS m c) ∗ (((c : Thread nD τ).loc cc0_stg1_0) ↦{fullShare} rwS m c) ∗ (((c : Thread nD τ).loc cc0_stg2_0) ↦{fullShare} rtS m c) ∗ (((c : Thread nD τ).loc cc0_stg3_0) ↦{fullShare} ewS m c) ∗ (((c : Thread nD τ).loc cc0_stg4_0) ↦{fullShare} swS m c))

/-- What the body starts from, and what it leaves. -/
def bodyPre : sProp 𝕄 := iprop((bigSep Finset.univ fun n : Fin 8 => S c n) ∗ (bigSep Finset.univ fun d : Fin 8 => iprop(∃ f, aPts c d f))
  ∗ (bigSep Finset.univ fun d : Fin 8 => Y1 c d) ∗ (atPos ER (barCell c) 0 ∅ 0 ∗ cred (tallyAt (barCell c) () 7)) ∗ ins m c ∗ (∃ f, (((c : Thread nD τ).loc cc0_stg5_0) ↦{fullShare} f)) ∗ owesE c (O₀ c))
def bodyPost : sProp 𝕄 := iprop((bigSep Finset.univ fun d : Fin 8 => W6 m c d) ∗ semVal (barCell c) 0 ∗ ins m c ∗ (((c : Thread nD τ).loc cc0_stg5_0) ↦{fullShare} outAt m c) ∗ owesE c 0)

set_option maxHeartbeats 1600000 in
/-- The body runs from the one to the other. -/
theorem sound_body (Kt : PUnit → sProp 𝕄) :
    iprop(ctx m K ∗ bodyPre m c)
      ⊢ iprop((bodyPost m c -∗ Kt ⟨⟩)
          -∗ wp frame (wpE (defs₀ (F := F)) 𝒱₀ (c : Thread nD τ) none) Set.univ (cc0_body xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11) Kt) := by
  simp only [cc0_body_eq_skeleton]; unfold cc0_body_skel
  unfold bodyPre bodyPost ins
  simp only [bigSep_fin8]
  iintro ⟨#HC, ⟨HS0, HS1, HS2, HS3, HS4, HS5, HS6, HS7⟩, ⟨Ha0, Ha1, Ha2, Ha3, Ha4, Ha5, Ha6, Ha7⟩, ⟨HY0, HY1, HY2, HY3, HY4, HY5, HY6, HY7⟩, Hbar, ⟨Hx, Hrw, Hrt, Hew, Hsw⟩, Hout, HO⟩ Hk
  rw [show O₀ c = sigO c 7 from rfl]
  rw [wp_bind]
  iapply (part1 m K c _) $$ [HS1 HS2 HS3 HS4 HS5 HO]
  · isplitr; · iexact HC
    isplitl [HS1]; · iexact HS1
    isplitl [HS2]; · iexact HS2
    isplitl [HS3]; · iexact HS3
    isplitl [HS4]; · iexact HS4
    isplitl [HS5]; · iexact HS5
    iexact HO
  iintro HO
  try dsimp only
  rw [wp_bind]
  iapply (part2 m K c _) $$ [HS6 HS7 Hx Hrt Hrw HO]
  · isplitr; · iexact HC
    isplitl [HS6]; · iexact HS6
    isplitl [HS7]; · iexact HS7
    isplitl [Hx]; · iexact Hx
    isplitl [Hrt]; · iexact Hrt
    isplitl [Hrw]; · iexact Hrw
    iexact HO
  iintro ⟨Hx, Hrt, Hrw, HO⟩
  try dsimp only
  rw [wp_bind]
  iapply (part3 m c _)
  dsimp only
  rw [wp_bind]
  iapply (part4 m K c _) $$ [Ha0 Ha1]
  · isplitr; · iexact HC
    isplitl [Ha0]; · iexact Ha0
    iexact Ha1
  iintro ⟨Ha0, Ha1⟩
  try dsimp only
  rw [wp_bind]
  iapply (part5 m K c _) $$ [Ha2 Ha3]
  · isplitr; · iexact HC
    isplitl [Ha2]; · iexact Ha2
    iexact Ha3
  iintro ⟨Ha2, Ha3⟩
  try dsimp only
  rw [wp_bind]
  iapply (part6 m K c _) $$ [Ha4 Ha5]
  · isplitr; · iexact HC
    isplitl [Ha4]; · iexact Ha4
    iexact Ha5
  iintro ⟨Ha4, Ha5⟩
  try dsimp only
  rw [wp_bind]
  iapply (part7 m K c _) $$ [Ha6 Ha7 Hbar HO]
  · isplitr; · iexact HC
    isplitl [Ha6]; · iexact Ha6
    isplitl [Ha7]; · iexact Ha7
    isplitl [Hbar]; · iexact Hbar
    iexact HO
  iintro ⟨Ha6, Ha7, Hz, HL, HO⟩
  try dsimp only
  unfold S
  icases HS0 with ⟨HS0, -⟩
  ihave HLL := (land_all c) $$ [HL HS0]
  · isplitl [HL]; · iexact HL
    iapply (Entails.of_eq (show land (F := F) c (c + 0) = land c c by rw [(by decide : ∀ c : Dev nD, c + 0 = c) c])); iexact HS0
  simp only [bigSep_fin8]
  icases HLL with ⟨HL0, HL1, HL2, HL3, HL4, HL5, HL6, HL7⟩
  ihave H0 := (mkW1 m c 0) $$ [Ha0 HL0 HY0]
  · isplitl [Ha0]; · iexact Ha0
    isplitl [HL0]; · iexact HL0
    iexact HY0
  ihave H1 := (mkW1 m c 1) $$ [Ha1 HL1 HY1]
  · isplitl [Ha1]; · iexact Ha1
    isplitl [HL1]; · iexact HL1
    iexact HY1
  ihave H2 := (mkW1 m c 2) $$ [Ha2 HL2 HY2]
  · isplitl [Ha2]; · iexact Ha2
    isplitl [HL2]; · iexact HL2
    iexact HY2
  ihave H3 := (mkW1 m c 3) $$ [Ha3 HL3 HY3]
  · isplitl [Ha3]; · iexact Ha3
    isplitl [HL3]; · iexact HL3
    iexact HY3
  ihave H4 := (mkW1 m c 4) $$ [Ha4 HL4 HY4]
  · isplitl [Ha4]; · iexact Ha4
    isplitl [HL4]; · iexact HL4
    iexact HY4
  ihave H5 := (mkW1 m c 5) $$ [Ha5 HL5 HY5]
  · isplitl [Ha5]; · iexact Ha5
    isplitl [HL5]; · iexact HL5
    iexact HY5
  ihave H6 := (mkW1 m c 6) $$ [Ha6 HL6 HY6]
  · isplitl [Ha6]; · iexact Ha6
    isplitl [HL6]; · iexact HL6
    iexact HY6
  ihave H7 := (mkW1 m c 7) $$ [Ha7 HL7 HY7]
  · isplitl [Ha7]; · iexact Ha7
    isplitl [HL7]; · iexact HL7
    iexact HY7
  rw [wp_bind]
  iapply (part8 m K c _) $$ [H0 H1 H2 H3 H4 HO]
  · isplitr; · iexact HC
    isplitl [H0]; · iexact H0
    isplitl [H1]; · iexact H1
    isplitl [H2]; · iexact H2
    isplitl [H3]; · iexact H3
    isplitl [H4]; · iexact H4
    iexact HO
  iintro ⟨H0, H1, H2, H3, H4, HO⟩
  try dsimp only
  rw [wp_bind]
  iapply (part9 m K c _) $$ [H5 H6 H7 Hew Hsw HO]
  · isplitr; · iexact HC
    isplitl [H5]; · iexact H5
    isplitl [H6]; · iexact H6
    isplitl [H7]; · iexact H7
    isplitl [Hew]; · iexact Hew
    isplitl [Hsw]; · iexact Hsw
    iexact HO
  iintro ⟨H5, H6, H7, Hew, Hsw, HO⟩
  try dsimp only
  rw [wp_bind]
  iapply (part10 m K c _) $$ [H0 HO]
  · isplitr; · iexact HC
    isplitl [H0]; · iexact H0
    iexact HO
  iintro ⟨H0, HO⟩
  try dsimp only
  rw [wp_bind]
  iapply (part11 m K c _) $$ [H1 HO]
  · isplitr; · iexact HC
    isplitl [H1]; · iexact H1
    iexact HO
  iintro ⟨H1, HO⟩
  try dsimp only
  rw [wp_bind]
  iapply (part12 m K c _) $$ [H2 HO]
  · isplitr; · iexact HC
    isplitl [H2]; · iexact H2
    iexact HO
  iintro ⟨H2, HO⟩
  try dsimp only
  rw [wp_bind]
  iapply (part13 m K c _) $$ [H3 HO]
  · isplitr; · iexact HC
    isplitl [H3]; · iexact H3
    iexact HO
  iintro ⟨H3, HO⟩
  try dsimp only
  rw [wp_bind]
  iapply (part14 m K c _) $$ [H4 HO]
  · isplitr; · iexact HC
    isplitl [H4]; · iexact H4
    iexact HO
  iintro ⟨H4, HO⟩
  try dsimp only
  rw [wp_bind]
  iapply (part15 m K c _) $$ [H4 H5 HO]
  · isplitr; · iexact HC
    isplitl [H4]; · iexact H4
    isplitl [H5]; · iexact H5
    iexact HO
  iintro ⟨H4, H5, HO⟩
  try dsimp only
  rw [wp_bind]
  iapply (part16 m K c _) $$ [H5 H6 HO]
  · isplitr; · iexact HC
    isplitl [H5]; · iexact H5
    isplitl [H6]; · iexact H6
    iexact HO
  iintro ⟨H5, H6, HO⟩
  try dsimp only
  rw [wp_bind]
  iapply (part17 m K c _) $$ [H6 H7 HO]
  · isplitr; · iexact HC
    isplitl [H6]; · iexact H6
    isplitl [H7]; · iexact H7
    iexact HO
  iintro ⟨H6, H7, HO⟩
  try dsimp only
  rw [show retO c 0 = 0 from rfl]
  rw [wp_bind]
  iapply (part18 m K c _) $$ [H7 H0 H1 H2 HO]
  · isplitr; · iexact HC
    isplitl [H7]; · iexact H7
    isplitl [H0]; · iexact H0
    isplitl [H1]; · iexact H1
    isplitl [H2]; · iexact H2
    iexact HO
  iintro ⟨H7, H0, H1, H2, HO⟩
  try dsimp only
  rw [wp_bind]
  iapply (part19 m K c _) $$ [H2 H3 H4 HO]
  · isplitr; · iexact HC
    isplitl [H2]; · iexact H2
    isplitl [H3]; · iexact H3
    isplitl [H4]; · iexact H4
    iexact HO
  iintro ⟨H2, H3, H4, HO⟩
  try dsimp only
  rw [wp_bind]
  iapply (part20 m K c _) $$ [H5 H6 H7 HO]
  · isplitr; · iexact HC
    isplitl [H5]; · iexact H5
    isplitl [H6]; · iexact H6
    isplitl [H7]; · iexact H7
    iexact HO
  iintro ⟨H5, H6, H7, HO⟩
  try dsimp only
  rw [wp_bind]
  iapply (part21 m K c _) $$ [H0 H1 H2 H3 H4 H5 H6 H7 Hout HO]
  · isplitr; · iexact HC
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hout]; · iexact Hout
    iexact HO
  iintro ⟨H0, H1, H2, H3, H4, H5, H6, H7, Hout, HO⟩
  try dsimp only
  rw [Prog.pure_eq_ret, wp_ret]; imodintro
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hz]; · iexact Hz
  isplitl [Hx Hrw Hrt Hew Hsw]
  · isplitl [Hx]; · iexact Hx
    isplitl [Hrw]; · iexact Hrw
    isplitl [Hrt]; · iexact Hrt
    isplitl [Hew]; · iexact Hew
    iexact Hsw
  isplitl [Hout]; · iexact Hout
  iexact HO

end Cert.MoE
-- ==== Proof.Credit.lean ====
/- The credits that the launch hands each device: what the devices owe its cells together. -/
module

public import proofs.«01_k».proof.Proof.Steps

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Sums

variable (c p d x : Fin 8) (k : Fin 6) (g : GSem nD τ sig)

/-- A sum counted down over the eight devices. -/
theorem sum_down (f : Fin 8 → ℕ) : (∑ i ∈ Finset.range 8, f (Fin.ofNat 8 (7 - i))) = ∑ d, f d := by
  rw [Finset.sum_range, ← Equiv.sum_comp Fin.revPerm f]
  exact Finset.sum_congr rfl fun i _ => congrArg f (by revert i; decide)

theorem retO_at : ∀ n, retO c n g () = ∑ i ∈ Finset.range n, (owD 5 c (Fin.ofNat 8 (7 - i)) g () + owD 3 c (Fin.ofNat 8 (7 - i)) g ())
  | 0 => rfl
  | n + 1 => by rw [Finset.sum_range_succ, ← retO_at n, retO, Pi.add_apply, Finsupp.add_apply, Pi.add_apply, Finsupp.add_apply, Nat.add_assoc]
theorem dspO_at : ∀ n, dspO c n g () = retO c 8 g () + ∑ i ∈ Finset.range n, owD 1 c (Fin.ofNat 8 (7 - i)) g ()
  | 0 => rfl
  | n + 1 => by rw [Finset.sum_range_succ, ← Nat.add_assoc, ← dspO_at n, dspO, Pi.add_apply, Finsupp.add_apply]
theorem sigO_at : ∀ n, sigO c n g () = dspO c 8 g () + ∑ i ∈ Finset.range n, owB c (c + Fin.ofNat 8 (7 - i)) g ()
  | 0 => rfl
  | n + 1 => by rw [Finset.sum_range_succ, ← Nat.add_assoc, ← sigO_at n, sigO, Pi.add_apply, Finsupp.add_apply]

/-- The devices, counted from one on. -/
def shiftBy : Fin 8 ≃ Fin 8 := ⟨fun x => c + x, fun x => x - c, by revert c; decide, by revert c; decide⟩

/-- What a device owes at launch, as a sum over the devices it owes it. -/
theorem O₀_at : O₀ c g () = (∑ x, (owD 5 c x g () + owD 3 c x g ())) + (∑ x, owD 1 c x g ()) + ∑ x, owB c x g () := by
  have h8 : sigO c 8 g () = O₀ c g () := by
    show (sigO c 7 + owB c (c + Fin.ofNat 8 (7 - 7))) g () = _
    rw [show c + Fin.ofNat 8 (7 - 7) = c from (by decide : ∀ c : Fin 8, c + Fin.ofNat 8 (7 - 7) = c) c, owB, if_pos rfl, add_zero]; rfl
  rw [← h8, sigO_at, dspO_at, retO_at, sum_down fun x => owD 5 c x g () + owD 3 c x g (), sum_down fun x => owD 1 c x g (),
    sum_down fun x => owB c (c + x) g (), show (∑ x, owB c (c + x) g ()) = ∑ x, owB c x g () from Equiv.sum_comp (shiftBy c) fun x => owB c x g ()]

theorem owB_bar : owB c x (barCell p) () = if x = p ∧ x ≠ c then 1 else 0 := by
  unfold owB
  by_cases h : x = c
  · rw [if_pos h, if_neg fun h' => h'.2 h]; rfl
  · rw [if_neg h, tallyAt_apply]
    refine if_congr ⟨fun h' => ⟨(congrArg (fun g : GSem nD τ sig => g.1.1) h'.1).symm, h⟩, fun h' => ⟨by rw [h'.1], rfl⟩⟩ rfl rfl
theorem owB_d : owB c x (dCell k p d) () = 0 := by
  unfold owB
  split
  · rfl
  · exact (tallyAt_apply _ _ _ _ _).trans (if_neg fun h => by cases congrArg Prod.snd h.1)
theorem owD_bar : owD k c x (barCell p) () = 0 := by
  unfold owD
  split
  · rfl
  · exact (tallyAt_apply _ _ _ _ _).trans (if_neg fun h => by cases congrArg Prod.snd h.1)
theorem owD_d (k' : Fin 6) : owD k' c x (dCell k p d) () = if k' = k ∧ x = p ∧ c = d ∧ p ≠ d then NK k else 0 := by
  unfold owD
  by_cases h : x = c
  · rw [if_pos h, if_neg fun ⟨_, h1, h2, h3⟩ => h3 (by rw [← h1, h, h2])]; rfl
  · rw [if_neg h, tallyAt_apply]
    by_cases h' : k' = k ∧ x = p ∧ c = d
    · obtain ⟨rfl, rfl, rfl⟩ := h'
      rw [if_pos ⟨rfl, rfl⟩, if_pos ⟨rfl, rfl, rfl, h⟩]
    · refine (if_neg fun h1 => h' ?_).trans (if_neg fun ⟨h1, h2, h3, _⟩ => h' ⟨h1, h2, h3⟩).symm
      have hs := dS_inj (SemLoc.dma.inj (congrArg Prod.snd h1.1))
      exact ⟨hs.1.symm, (congrArg (fun g : GSem nD τ sig => g.1.1) h1.1).symm, hs.2.symm⟩

/-- The other devices owe a device's barrier cell seven units, -/
theorem sum_bar : (∑ c : Fin 8, O₀ c (barCell p) ()) = 7 := by
  simp only [O₀_at, owD_bar, owB_bar, Finset.sum_const_zero, zero_add]
  revert p; decide
/-- and its peer owes a receive cell a slot. -/
theorem sum_d (hk : k = 1 ∨ k = 3 ∨ k = 5) (h : d ≠ p) : (∑ c : Fin 8, O₀ c (dCell k p d) ()) = NK k := by
  have one (N : ℕ) : (∑ c : Fin 8, ∑ x : Fin 8, if x = p ∧ c = d ∧ p ≠ d then N else 0) = N := by
    rw [Finset.sum_eq_single d (fun c _ hc => Finset.sum_eq_zero fun x _ => if_neg fun h => hc h.2.1) fun h => absurd (Finset.mem_univ d) h,
      Finset.sum_eq_single p (fun x _ hx => if_neg fun h => hx h.1) fun h => absurd (Finset.mem_univ p) h, if_pos ⟨rfl, rfl, h.symm⟩]
  rcases hk with rfl | rfl | rfl <;>
    simp only [O₀_at, owD_d, owB_d, Finset.sum_add_distrib, Finset.sum_const_zero, true_and, false_and, if_false, add_zero, zero_add,
      (by decide : ((5 : Fin 6) = 1) = False), (by decide : ((3 : Fin 6) = 1) = False), (by decide : ((5 : Fin 6) = 3) = False), (by decide : ((1 : Fin 6) = 3) = False),
      (by decide : ((3 : Fin 6) = 5) = False), (by decide : ((1 : Fin 6) = 5) = False), one]

end Sums

theorem launch_bar (c : Dev nD) : tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]; exact sum_bar c
theorem launch_d (k : Fin 6) (hk : k = 1 ∨ k = 3 ∨ k = 5) (c d : Dev nD) (h : d ≠ c) :
    tallyOn (dCell k c d) (launchCredit (Pipeline.owing O₀) 0 (dCell k c d)) = (tallyAt (dCell k c d) () (NK k) : CellTallies nD τ sig Unit) := by
  unfold tallyAt; refine congrArg _ (Finsupp.ext fun u => ?_); cases u
  rw [Pipeline.launchCredit_owing, Finsupp.single_eq_same]; exact sum_d c d k hk h

theorem csem_injective : Function.Injective csem := by
  rintro (_ | ⟨k, d⟩) (_ | ⟨k', d'⟩) h
  · rfl
  · cases h
  · cases h
  · obtain ⟨rfl, rfl⟩ := dS_inj (SemLoc.dma.inj h); rfl

/-- A conjunction over a device's cells: the barrier's, and the families' by the peer. -/
theorem bigSep_CI (Φ : CI → sProp 𝕄) : bigSep Finset.univ Φ
    = iprop(Φ none ∗ bigSep Finset.univ fun d : Fin 8 => iprop(Φ (some (0, d)) ∗ Φ (some (1, d)) ∗ Φ (some (2, d)) ∗ Φ (some (3, d)) ∗ Φ (some (4, d)) ∗ Φ (some (5, d)))) := by
  have h : (Finset.univ : Finset CI) = insert none ((Finset.univ : Finset (Fin 6 × Fin 8)).map Function.Embedding.some) := by
    ext o; cases o <;> simp
  rw [h, bigSep_insert (by simp), bigSep_map, bigSep_univ_prod, BI.bigSep_univ_comm]
  exact congrArg (fun X => iprop(Φ none ∗ X)) (bigSep_congr fun d _ => bigSep_univ_eq_bigSepL [0, 1, 2, 3, 4, 5] (by decide) (by decide) _)

/-- The credits of a device: seven units of its barrier cell, and a slot of each receive cell. -/
theorem creds (c : Dev nD) : (Pipeline.launchCred O₀ c : sProp 𝕄)
    ⊢ iprop(cred (tallyAt (barCell c) () 7) ∗ bigSep Finset.univ fun d : Fin 8 => iprop(credO 1 c d ∗ credO 3 c d ∗ credO 5 c d)) := by
  have one (k : Fin 6) (hk : k = 1 ∨ k = 3 ∨ k = 5) (d : Dev nD) :
      (cred (tallyOn (dCell k c d) (launchCredit (Pipeline.owing O₀) 0 (dCell k c d))) : sProp 𝕄) ⊢ credO k c d := by
    unfold credO
    split
    · iintro -; iempintro
    · rw [launch_d k hk c d (by assumption)]
  have each (d : Dev nD) : iprop(cred (tallyOn (dCell 0 c d) (launchCredit (Pipeline.owing O₀) 0 (dCell 0 c d))) ∗ cred (tallyOn (dCell 1 c d) (launchCredit (Pipeline.owing O₀) 0 (dCell 1 c d))) ∗ cred (tallyOn (dCell 2 c d) (launchCredit (Pipeline.owing O₀) 0 (dCell 2 c d))) ∗ cred (tallyOn (dCell 3 c d) (launchCredit (Pipeline.owing O₀) 0 (dCell 3 c d))) ∗ cred (tallyOn (dCell 4 c d) (launchCredit (Pipeline.owing O₀) 0 (dCell 4 c d))) ∗ cred (tallyOn (dCell 5 c d) (launchCredit (Pipeline.owing O₀) 0 (dCell 5 c d))))
      ⊢ (iprop(credO 1 c d ∗ credO 3 c d ∗ credO 5 c d) : sProp 𝕄) := by
    iintro ⟨-, H1, -, H3, -, H5⟩
    isplitl [H1]; · iapply (one 1 (Or.inl rfl) d); iexact H1
    isplitl [H3]; · iapply (one 3 (Or.inr (Or.inl rfl)) d); iexact H3
    iapply (one 5 (Or.inr (Or.inr rfl)) d); iexact H5
  unfold Pipeline.launchCred
  refine (BI.bigSep_subset (Finset.subset_univ ((Finset.univ : Finset CI).map ⟨csem, csem_injective⟩))).trans ?_
  rw [bigSep_map, bigSep_CI]
  show iprop(cred (tallyOn (barCell c) (launchCredit (Pipeline.owing O₀) 0 (barCell c))) ∗ _) ⊢ _
  rw [launch_bar]
  exact sep_mono_right (bigSep_mono fun d _ => each d)

end Cert.MoE
-- ==== Proof.Ghost.lean ====
/- The ghost state of the exchange: minted for all cells at once, then dealt so that each device holds the duties that it pays. -/
module

public import proofs.«01_k».proof.Proof.Credit

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duties: of each cell for a device `d`, paid by `d`. -/
abbrev tokOf (x : Dev nD × Dev nD × Option (Fin 6)) : GSem nD τ sig × ℕ × Fin 8 := match x.2.2 with
  | none => (barCell x.1, 0, x.2.1)
  | some k => (dCell k x.1 x.2.1, 0, x.2.1)
theorem tokOf_injective : Function.Injective tokOf := by
  rintro ⟨c, d, o⟩ ⟨c', d', o'⟩ h
  cases o <;> cases o'
  · have h1 : c = c' := congrArg (fun x : GSem nD τ sig × ℕ × Fin 8 => x.1.1.1) h
    have h2 : d = d' := congrArg (fun x : GSem nD τ sig × ℕ × Fin 8 => x.2.2) h
    rw [h1, h2]
  · cases congrArg (fun x : GSem nD τ sig × ℕ × Fin 8 => x.1.2) h
  · cases congrArg (fun x : GSem nD τ sig × ℕ × Fin 8 => x.1.2) h
  · have h1 : c = c' := congrArg (fun x : GSem nD τ sig × ℕ × Fin 8 => x.1.1.1) h
    have h2 : d = d' := congrArg (fun x : GSem nD τ sig × ℕ × Fin 8 => x.2.2) h
    have h3 := (dS_inj (SemLoc.dma.inj (congrArg (fun x : GSem nD τ sig × ℕ × Fin 8 => x.1.2) h))).1
    rw [h1, h2, h3]
def ringToks : Finset (GSem nD τ sig × ℕ × Fin 8) := Finset.univ.map ⟨tokOf, tokOf_injective⟩

/-- The launch's ghost element: the staging's and the exchange's. -/
def u₀ : UU := (initOf (Pipeline.cells cfgs cellOf_inj) (Pipeline.launchToks cfgs cellOf_inj), initOf ringCells ringToks)

/-- The duties of device `c`'s cells that `d` pays; -/
def toks (c d : Dev nD) : sProp 𝕄 :=
  iprop(dutyTok ER (barCell c) 0 d ∗ dutyTok ER (dCell 0 c d) 0 d ∗ dutyTok ER (dCell 1 c d) 0 d ∗ dutyTok ER (dCell 2 c d) 0 d
    ∗ dutyTok ER (dCell 3 c d) 0 d ∗ dutyTok ER (dCell 4 c d) 0 d ∗ dutyTok ER (dCell 5 c d) 0 d)
/-- the duties that `c` pays for `d`. -/
def pay (c d : Dev nD) : sProp 𝕄 := iprop(dutyTok ER (barCell d) 0 c ∗ tokA c d ∗ tokP c d ∗ tokU c d)

/-- What the launch element deals device `c`, -/
def G (c : Dev nD) : sProp 𝕄 :=
  iprop((bigSep Finset.univ fun k : CI => roundState ER (rd m) (kcell (c, k)) 0)
    ∗ (bigSep Finset.univ fun k : CI => iprop(atPos ER (kcell (c, k)) 0 ∅ 0 ∗ reached ER (kcell (c, k)) 0)) ∗ bigSep Finset.univ fun d : Dev nD => toks c d)
/-- and what becomes of it: every cell's invariant, the device's positions and the duties that it pays. -/
def mine (c : Dev nD) : sProp 𝕄 :=
  iprop((atPos ER (barCell c) 0 ∅ 0 ∗ bigSep Finset.univ fun d : Dev nD => iprop(at0 0 c d ∗ at0 1 c d ∗ at0 2 c d ∗ at0 3 c d ∗ at0 4 c d ∗ at0 5 c d))
    ∗ bigSep Finset.univ fun d : Dev nD => pay c d)
def G' (c : Dev nD) : sProp 𝕄 := iprop(∃ K, records m K ∗ mine c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hO (Φ : Option (Fin 6) → sProp 𝕄) : bigSep Finset.univ Φ = iprop(Φ none ∗ Φ (some 0) ∗ Φ (some 1) ∗ Φ (some 2) ∗ Φ (some 3) ∗ Φ (some 4) ∗ Φ (some 5)) :=
    bigSep_univ_eq_bigSepL [none, some 0, some 1, some 2, some 3, some 4, some 5] (by decide) (by decide) Φ
  have hT : bigSep ringToks (fun x => (dutyTok ER x.1 x.2.1 x.2.2 : sProp 𝕄)) = bigSep Finset.univ fun c : Dev nD => bigSep Finset.univ fun d : Dev nD => toks c d := by
    unfold ringToks; rw [bigSep_map, bigSep_univ_prod]
    refine bigSep_congr fun c _ => ?_
    rw [bigSep_univ_prod]
    exact bigSep_congr fun d _ => by unfold toks; rw [hO]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The one semaphore outside the kernel's scope is the runtime's barrier. -/
theorem unscopedSems0_eq (c : Dev nD) : (unscopedSems0 c : sProp 𝕄) = semVal (barCell c) 0 :=
  (bigSep_eq_bigSepL_of_eq [SemLoc.reg barS] (by decide) (by decide) _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ bigSep Finset.univ fun d : Dev nD => toks c d) := by
  have hs : iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
    have h : (Finset.univ : Finset CI) = insert none ((Finset.univ : Finset (Fin 6 × Fin 8)).map Function.Embedding.some) := by
      ext o; cases o <;> simp
    rw [unscopedSems0_eq, h, bigSep_insert (by simp), bigSep_map]
    unfold Pipeline.ownSems0
    show _ ⊢ (iprop(semVal (barCell c) 0 ∗ bigSep Finset.univ fun kd : Fin 6 × Fin 8 => semVal ((c : Thread nD τ), osem kd) 0) : sProp 𝕄)
    iintro ⟨H, H'⟩
    isplitl [H'] <;> iassumption
  unfold G
  iintro ⟨Hos, Hus, Hst, Hat, Htok⟩
  ihave Hv := hs $$ [Hos Hus]
  · isplitl [Hos] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k : CI => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Each duty goes to the device that pays it. -/
theorem deal : (bigSep Finset.univ fun c : Dev nD => bigSep Finset.univ fun d : Dev nD => (toks c d : sProp 𝕄))
    ⊢ bigSep Finset.univ fun c : Dev nD => bigSep Finset.univ fun d : Dev nD => pay c d := by
  unfold toks pay tokA tokP tokU
  simp only [bigSep_sep']
  rw [BI.bigSep_univ_comm fun c d : Dev nD => (dutyTok ER (barCell c) 0 d : sProp 𝕄), BI.bigSep_univ_comm fun c d : Dev nD => (dutyTok ER (dCell 1 c d) 0 d : sProp 𝕄),
    BI.bigSep_univ_comm fun c d : Dev nD => (dutyTok ER (dCell 3 c d) 0 d : sProp 𝕄), BI.bigSep_univ_comm fun c d : Dev nD => (dutyTok ER (dCell 5 c d) 0 d : sProp 𝕄)]
  iintro ⟨HB, H0, H1, H2, H3, H4, H5⟩
  isplitl [HB]; · iexact HB
  isplitl [H0 H1]; · isplitl [H0] <;> iassumption
  isplitl [H2 H3]; · isplitl [H2] <;> iassumption
  isplitl [H4] <;> iassumption

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem mine_intro (K : Dev nD × CI → ℕ) (c : Dev nD) : iprop(records m K ∗ mine c) ⊢ G' m c := by
  unfold G'; iintro H; iexists K; iexact H

theorem regroup :
    (bigSep Finset.univ fun c : Dev nD => iprop((bigSep Finset.univ fun k : CI => iprop(∃ κ : ℕ, cellInv ER (rd m) κ (kcell (c, k))))
          ∗ (bigSep Finset.univ fun k : CI => iprop(atPos ER (kcell (c, k)) 0 ∅ 0 ∗ reached ER (kcell (c, k)) 0)) ∗ bigSep Finset.univ fun d : Dev nD => toks c d) : sProp 𝕄)
      ⊢ bigSep Finset.univ (G' m) := by
  rw [bigSep_sep', bigSep_sep', ← bigSep_univ_prod (fun ck : Dev nD × CI => iprop(∃ κ : ℕ, cellInv ER (rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m) κ (kcell ck) : sProp 𝕄))) $$ HI
  icases HK with ⟨%K, #HI⟩
  ihave Htk := (deal (F := F)) $$ Htok
  iapply (bigSep_with (R := records m K) fun c _ => mine_intro m K c)
  isplitr
  · unfold records; rw [bigSep_sep']; isplitl; · iexact HI
    iexact HR
  · unfold mine; rw [bigSep_sep']
    isplitl [Hat]
    · iapply (Entails.of_eq (bigSep_congr (s := Finset.univ) fun (c : Dev nD) _ => bigSep_CI (F := F) fun k : CI => (atPos ER (kcell (c, k)) 0 ∅ 0 : sProp 𝕄)))
      iexact Hat
    iexact Htk

/-- All devices' semaphores and the minted state become the cells' invariants and what each device holds. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.MoE
-- ==== Proof.Obligation.lean ====
/- The body as the launch asks for it: from what each device starts with, its staged inputs and its scratch buffers whole, to its result. -/
module

public import proofs.«01_k».proof.Proof.Body
public import proofs.«01_k».proof.Proof.Ghost
public import proofs.«01_k».proof.Proof.Gen.KernelIdeal.Launch

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

/-! ## The exchange buffers, whole and slot by slot -/

section Whole
variable {n k : ℕ} {e : EltTy} (M : Memref sig .tc .vmem (S3 n k) e) (I : Fin 8 → Finset M.view.ref.ty.shape.Idx)
  (hI : ∀ d, (M.access (slotR n k d)).set = I d) (hd : ∀ d d', d ≠ d' → Disjoint (I d) (I d')) (hc : Finset.univ.biUnion I = Finset.univ)

include hI hd hc
/-- An array of eight slots held whole is its slots held; -/
theorem whole_slots (c : Dev nD) :
    (iprop(∃ f : Buf (Elt F) (M.view.loc (c : Thread nD τ)), (M.view.loc (c : Thread nD τ)) ↦{fullShare} f) : sProp 𝕄)
      ⊢ bigSep Finset.univ fun d : Fin 8 => iprop(∃ f, slotPts M c d f) := by
  have one (f : Buf (Elt F) (M.view.loc (c : Thread nD τ))) (d : Fin 8) : (M.view.loc (c : Thread nD τ) ↦[I d]{fullShare} f : sProp 𝕄) ⊢ iprop(∃ f, slotPts M c d f) := by
    unfold slotPts; rw [hI]
    iintro H; iexists f; iexact H
  have all (f : Buf (Elt F) (M.view.loc (c : Thread nD τ))) : (bigSep Finset.univ fun d : Fin 8 => (M.view.loc (c : Thread nD τ) ↦[I d]{fullShare} f : sProp 𝕄))
      ⊢ bigSep Finset.univ fun d : Fin 8 => iprop(∃ f, slotPts M c d f) := bigSep_mono fun d _ => one f d
  iintro ⟨%f, H⟩
  iapply (all f)
  iapply (Entails.of_eq (Ring.pointsTo_blocks (ℓ := M.view.loc (c : Thread nD τ)) I hd hc f)); iexact H
/-- and slots held join. -/
theorem slots_whole (f₀ : M.view.ref.ty.Contents (Elt F)) (c : Dev nD) :
    (bigSep Finset.univ fun d : Fin 8 => iprop(∃ f, slotPts M c d f) : sProp 𝕄)
      ⊢ iprop(∃ f : Buf (Elt F) (M.view.loc (c : Thread nD τ)), (M.view.loc (c : Thread nD τ)) ↦{fullShare} f) := by
  unfold slotPts
  simp only [hI]
  exact Ring.pointsTo_blocks_join_exists (ℓ := M.view.loc (c : Thread nD τ)) I hd hc f₀
end Whole

/-- The six exchange buffers of a device, slot by slot, whatever they hold. -/
def scr (c : Dev nD) : sProp 𝕄 := iprop((bigSep Finset.univ fun d : Fin 8 => iprop(∃ f, aPts c d f)) ∗ (bigSep Finset.univ fun d : Fin 8 => iprop(∃ f, bPts c d f)) ∗ (bigSep Finset.univ fun d : Fin 8 => iprop(∃ f, pPts c d f)) ∗ (bigSep Finset.univ fun d : Fin 8 => iprop(∃ f, rPts c d f)) ∗ (bigSep Finset.univ fun d : Fin 8 => iprop(∃ f, uPts c d f)) ∗ (bigSep Finset.univ fun d : Fin 8 => iprop(∃ f, tPts c d f)))

theorem scr_split (c : Dev nD) : (iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) : sProp 𝕄) ⊢ scr c := by
  unfold scr
  iintro ⟨Ha, Hb, Hp, Hr, Hu, Ht⟩
  isplitl [Ha]; · iapply (whole_slots aM _ (fun d => View.set_slice_whole _ _) slot_disjoint slot_cover c); iexact Ha
  isplitl [Hb]; · iapply (whole_slots bM _ (fun d => View.set_slice_whole _ _) slot_disjoint slot_cover c); iexact Hb
  isplitl [Hp]; · iapply (whole_slots pM _ (fun d => View.set_slice_whole _ _) slot_disjoint slot_cover c); iexact Hp
  isplitl [Hr]; · iapply (whole_slots rM _ (fun d => View.set_slice_whole _ _) slot_disjoint slot_cover c); iexact Hr
  isplitl [Hu]; · iapply (whole_slots uM _ (fun d => View.set_slice_whole _ _) slot_disjoint slot_cover c); iexact Hu
  iapply (whole_slots tM _ (fun d => View.set_slice_whole _ _) slot_disjoint slot_cover c); iexact Ht

include m in
theorem scr_join (c : Dev nD) : scr c ⊢ (iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)) : sProp 𝕄) := by
  unfold scr
  iintro ⟨Ha, Hb, Hp, Hr, Hu, Ht⟩
  isplitl [Ha]; · iapply (slots_whole aM _ (fun d => View.set_slice_whole _ _) slot_disjoint slot_cover (aC m c) c); iexact Ha
  isplitl [Hb]; · iapply (slots_whole bM _ (fun d => View.set_slice_whole _ _) slot_disjoint slot_cover (bC m c) c); iexact Hb
  isplitl [Hp]; · iapply (slots_whole pM _ (fun d => View.set_slice_whole _ _) slot_disjoint slot_cover (pC m c) c); iexact Hp
  isplitl [Hr]; · iapply (slots_whole rM _ (fun d => View.set_slice_whole _ _) slot_disjoint slot_cover (rC m c) c); iexact Hr
  isplitl [Hu]; · iapply (slots_whole uM _ (fun d => View.set_slice_whole _ _) slot_disjoint slot_cover (uC m c) c); iexact Hu
  iapply (slots_whole tM _ (fun d => View.set_slice_whole _ _) slot_disjoint slot_cover (tC m c) c); iexact Ht

/-! ## The body's data -/

/-- What a device starts from: the cells' invariants and its own ghost state; its credits; the levels. -/
def start (c : Dev nD) : sProp 𝕄 :=
  iprop(G' m c ∗ (cred (tallyAt (barCell c) () 7) ∗ bigSep Finset.univ fun d : Fin 8 => iprop(credO 1 c d ∗ credO 3 c d ∗ credO 5 c d)) ∗ levAts L lv)
def Φ₀ (c : Dev nD) : sProp 𝕄 := iprop(start m c ∗ scr c)
/-- What it ends with: its exchange buffers and its cells closed. -/
def Φ₁ (c : Dev nD) : sProp 𝕄 := iprop((bigSep Finset.univ fun d : Fin 8 => W6 m c d) ∗ semVal (barCell c) 0)

def dats (_ : Fin 1) (c : Dev nD) : Dat τ (Elt F) Unit ℕ UU ℕ cfg0 c where
  A w := m ((cfg0.win w).arr.view.loc (c : Thread nD τ))
  after w _ := match w with
    | ⟨0, _⟩ => xS m c
    | ⟨1, _⟩ => rwS m c
    | ⟨2, _⟩ => rtS m c
    | ⟨3, _⟩ => ewS m c
    | ⟨4, _⟩ => swS m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- What the launch gives a device is what its body starts from. -/
theorem assemble (c : Dev nD) : (iprop(mine c ∗ (cred (tallyAt (barCell c) () 7) ∗ bigSep Finset.univ fun d : Fin 8 => iprop(credO 1 c d ∗ credO 3 c d ∗ credO 5 c d)) ∗ scr c) : sProp 𝕄)
    ⊢ iprop((bigSep Finset.univ fun n : Fin 8 => S c n) ∗ (bigSep Finset.univ fun d : Fin 8 => iprop(∃ f, aPts c d f))
      ∗ (bigSep Finset.univ fun d : Fin 8 => Y1 c d) ∗ (atPos ER (barCell c) 0 ∅ 0 ∗ cred (tallyAt (barCell c) () 7))) := by
  rw [show (bigSep Finset.univ fun n : Fin 8 => (S c n : sProp 𝕄)) = bigSep Finset.univ fun d : Fin 8 => iprop(land c d ∗ dutyTok ER (barCell d) 0 c)
    from (bigSep_univ_equiv (shiftBy c) fun d : Fin 8 => (iprop(land c d ∗ dutyTok ER (barCell d) 0 c) : sProp 𝕄)).symm]
  unfold mine scr Y1 land X3 X0 pay
  simp only [bigSep_sep']
  iintro ⟨⟨⟨HB, H0, H1, H2, H3, H4, H5⟩, HT, HA, HP, HU⟩, ⟨HcB, Hc1, Hc3, Hc5⟩, Ha, Hb, Hp, Hr, Hu, Ht⟩
  isplitl [Hb Hr Ht HT]
  · isplitl [Hb Hr Ht]
    · isplitl [Hb]; · iexact Hb
      isplitl [Hr]; · iexact Hr
      iexact Ht
    iexact HT
  isplitl [Ha]; · iexact Ha
  isplitr [HB HcB]
  · isplitl [HA]; · iexact HA
    isplitl [H1 Hc1 Hp Hu HP HU]
    · isplitl [H1]; · iexact H1
      isplitl [Hc1]; · iexact Hc1
      isplitl [Hp]; · iexact Hp
      isplitl [Hu]; · iexact Hu
      isplitl [HP]; · iexact HP
      iexact HU
    isplitl [H3 Hc3 H5 Hc5]
    · isplitl [H3 Hc3]
      · isplitl [H3]; · iexact H3
        iexact Hc3
      isplitl [H5]; · iexact H5
      iexact Hc5
    isplitl [H0]; · iexact H0
    isplitl [H2]; · iexact H2
    iexact H4
  isplitl [HB]; · iexact HB
  iexact HcB

/-- A device's cells and slots at the end, by the peer. -/
theorem W6_out (c d : Dev nD) : W6 m c d ⊢ (iprop((z0 0 c d ∗ z0 1 c d ∗ z0 2 c d ∗ z0 3 c d ∗ z0 4 c d ∗ z0 5 c d)
    ∗ (∃ f, aPts c d f) ∗ (∃ f, bPts c d f) ∗ (∃ f, pPts c d f) ∗ (∃ f, rPts c d f) ∗ (∃ f, uPts c d f) ∗ ∃ f, tPts c d f) : sProp 𝕄) := by
  show iprop(((z0 0 c d ∗ aPts c d (aC m c)) ∗ (z0 2 c d ∗ pPts c d (pC m c)) ∗ (z0 4 c d ∗ uPts c d (uC m c))) ∗ (z0 1 c d ∗ bPts c d (bC m c)) ∗ (z0 3 c d ∗ rPts c d (rC m c)) ∗ z0 5 c d ∗ tPts c d (tC m c)) ⊢ _
  iintro ⟨⟨⟨H0, Ha⟩, ⟨H2, Hp⟩, H4, Hu⟩, ⟨H1, Hb⟩, ⟨H3, Hr⟩, H5, Ht⟩
  isplitr [Ha Hb Hp Hr Hu Ht]
  · isplitl [H0]; · iexact H0
    isplitl [H1]; · iexact H1
    isplitl [H2]; · iexact H2
    isplitl [H3]; · iexact H3
    isplitl [H4]; · iexact H4
    iexact H5
  isplitl [Ha]; · iexists _; iexact Ha
  isplitl [Hb]; · iexists _; iexact Hb
  isplitl [Hp]; · iexists _; iexact Hp
  isplitl [Hr]; · iexists _; iexact Hr
  isplitl [Hu]; · iexists _; iexact Hu
  iexists _; iexact Ht

theorem ownSems0_eq (c : Dev nD) : (Pipeline.ownSems0 (Ix := Unit) (Name := ℕ) (U := UU) (Lvl := ℕ) (Val := Elt F) (τ := τ) osem c : sProp 𝕄)
    = bigSep Finset.univ fun d : Fin 8 => iprop(z0 0 c d ∗ z0 1 c d ∗ z0 2 c d ∗ z0 3 c d ∗ z0 4 c d ∗ z0 5 c d) := by
  unfold Pipeline.ownSems0
  rw [bigSep_univ_prod, BI.bigSep_univ_comm]
  exact bigSep_congr fun d _ => bigSep_univ_eq_bigSepL [0, 1, 2, 3, 4, 5] (by decide) (by decide) _

theorem dismantle (c : Dev nD) : (bigSep Finset.univ fun d : Fin 8 => W6 m c d)
    ⊢ (iprop(Pipeline.ownSems0 (Ix := Unit) (Name := ℕ) (U := UU) (Lvl := ℕ) (Val := Elt F) (τ := τ) osem c ∗ scr c) : sProp 𝕄) := by
  refine (bigSep_mono fun d _ => W6_out m c d).trans ?_
  rw [ownSems0_eq]; unfold scr
  simp only [bigSep_sep']
  exact Entails.refl _

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, unscopedSems0_eq]
  unfold Φ₁
  iintro ⟨HW, HB⟩
  ihave H := (dismantle m c) $$ HW
  icases H with ⟨HZ, HS⟩
  isplitl [HB]; · iexact HB
  isplitl [HZ]; · iexact HZ
  iapply (scr_join m c); iexact HS

/-! ## The obligation -/

theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem fetch_at (w : Fin 6) (hw : w ≠ 5) (t : Fin cfg0.N) : (cfg0.win w).fetch t = true := by
  rw [show t = t0_0 from fin_N0 t]; revert hw; revert w; decide

set_option maxRecDepth 4000 in
def bodyPre' (c : Dev nD) : sProp 𝕄 :=
  iprop(Φ₀ m c ∗ (dats m 0 c).owesAt () (t0_0 : Fin cfg0.N).castSucc
    ∗ (∃ d, stg c cc0_stg0_0 ((dats m 0 c).before (0 : Fin 6) (t0_0 : Fin cfg0.N) d))
    ∗ (∃ d, stg c cc0_stg1_0 ((dats m 0 c).before (1 : Fin 6) (t0_0 : Fin cfg0.N) d))
    ∗ (∃ d, stg c cc0_stg2_0 ((dats m 0 c).before (2 : Fin 6) (t0_0 : Fin cfg0.N) d))
    ∗ (∃ d, stg c cc0_stg3_0 ((dats m 0 c).before (3 : Fin 6) (t0_0 : Fin cfg0.N) d))
    ∗ (∃ d, stg c cc0_stg4_0 ((dats m 0 c).before (4 : Fin 6) (t0_0 : Fin cfg0.N) d))
    ∗ (∃ d, stg c cc0_stg5_0 ((dats m 0 c).before (5 : Fin 6) (t0_0 : Fin cfg0.N) d)))
set_option maxRecDepth 4000 in
def bodyPost' (c : Dev nD) : sProp 𝕄 :=
  iprop(Φ₁ m c ∗ (dats m 0 c).owesAt () (t0_0 : Fin cfg0.N).succ
    ∗ stg c cc0_stg0_0 (xS m c) ∗ stg c cc0_stg1_0 (rwS m c) ∗ stg c cc0_stg2_0 (rtS m c) ∗ stg c cc0_stg3_0 (ewS m c) ∗ stg c cc0_stg4_0 (swS m c) ∗ stg c cc0_stg5_0 (outAt m c))

set_option maxRecDepth 4000 in
/-- The body, as the launch asks for it. -/
theorem sound_body' (c : Dev nD) : bodyPre' m c ⊢ wp frame (wpE (defs₀ (F := F)) 𝒱₀ (c : Thread nD τ) none) Set.univ (cc0_body xM (Memref.isWhole_whole _) rwM (Memref.isWhole_whole _) rtM (Memref.isWhole_whole _) ewM (Memref.isWhole_whole _) swM (Memref.isWhole_whole _) oM (Memref.isWhole_whole _) aM (Memref.isWhole_whole _) bM (Memref.isWhole_whole _) pM (Memref.isWhole_whole _) rM (Memref.isWhole_whole _) uM (Memref.isWhole_whole _) tM (Memref.isWhole_whole _) cc0_scratch6 cc0_scratch7 cc0_scratch8 cc0_scratch9 cc0_scratch10 cc0_scratch11) (fun _ => bodyPost' m c) := by
  unfold bodyPre' Φ₀ start G' Dat.owesAt Pipeline.owesWithin
  iintro ⟨⟨⟨⟨%K, #HR, HM⟩, HC, #HL⟩, HS⟩, ⟨%W, %hW, HO⟩, ⟨%d0, %g0, %hg0, Hx⟩, ⟨%d1, %g1, %hg1, Hrw⟩, ⟨%d2, %g2, %hg2, Hrt⟩, ⟨%d3, %g3, %hg3, Hew⟩, ⟨%d4, %g4, %hg4, Hsw⟩, ⟨%d5, %g5, %hg5, Hout⟩⟩
  obtain rfl : g0 = xS m c := by rw [hg0]; unfold Dat.before; rw [if_pos (fetch_at 0 (by decide) _)]; rfl
  obtain rfl : g1 = rwS m c := by rw [hg1]; unfold Dat.before; rw [if_pos (fetch_at 1 (by decide) _)]; rfl
  obtain rfl : g2 = rtS m c := by rw [hg2]; unfold Dat.before; rw [if_pos (fetch_at 2 (by decide) _)]; rfl
  obtain rfl : g3 = ewS m c := by rw [hg3]; unfold Dat.before; rw [if_pos (fetch_at 3 (by decide) _)]; rfl
  obtain rfl : g4 = swS m c := by rw [hg4]; unfold Dat.before; rw [if_pos (fetch_at 4 (by decide) _)]; rfl
  rw [show (dats m 0 c).owed (t0_0 : Fin cfg0.N).castSucc = O₀ c from rfl]
  ihave HA := (assemble c) $$ [HM HC HS]
  · isplitl [HM]; · iexact HM
    isplitl [HC]; · iexact HC
    iexact HS
  icases HA with ⟨H1, H2, H3, H4⟩
  iapply (sound_body m K c fun _ => bodyPost' m c) $$ [H1 H2 H3 H4 HO Hx Hrw Hrt Hew Hsw Hout]
  · isplitr
    · unfold ctx; isplitr; · iexact HR
      iexact HL
    unfold bodyPre ins owesE
    isplitl [H1]; · iexact H1
    isplitl [H2]; · iexact H2
    isplitl [H3]; · iexact H3
    isplitl [H4]; · iexact H4
    isplitl [Hx Hrw Hrt Hew Hsw]
    · isplitl [Hx]; · iexact Hx
      isplitl [Hrw]; · iexact Hrw
      isplitl [Hrt]; · iexact Hrt
      isplitl [Hew]; · iexact Hew
      iexact Hsw
    isplitl [Hout]; · iexists _; iexact Hout
    iexists W; iexact HO
  unfold bodyPost ins owesE
  iintro ⟨HW, HB, ⟨Hx, Hrw, Hrt, Hew, Hsw⟩, Hout, ⟨%W', HO⟩⟩
  unfold bodyPost' Φ₁ Dat.owesAt Pipeline.owesWithin
  rw [show (dats m 0 c).owed (t0_0 : Fin cfg0.N).succ = 0 from rfl]
  isplitl [HW HB]
  · isplitl [HW] <;> iassumption
  isplitl [HO]
  · iexists W'
    isplitr; · ipureintro; exact fun _ _ => Or.inl trivial
    iexact HO
  isplitl [Hx]
  · iexists _; isplitr; · (ipureintro; rfl)
    iexact Hx
  isplitl [Hrw]
  · iexists _; isplitr; · (ipureintro; rfl)
    iexact Hrw
  isplitl [Hrt]
  · iexists _; isplitr; · (ipureintro; rfl)
    iexact Hrt
  isplitl [Hew]
  · iexists _; isplitr; · (ipureintro; rfl)
    iexact Hew
  isplitl [Hsw]
  · iexists _; isplitr; · (ipureintro; rfl)
    iexact Hsw
  iexists _; isplitr; · (ipureintro; rfl)
  iexact Hout

set_option maxRecDepth 4000 in
theorem body_obligation (c : Dev nD) : BodyObligation (dats (F := F) m 0 c) (defs₀ (F := F)) 𝒱₀ () Set.univ := fun t => by
  rw [show t = t0_0 from fin_N0 t]
  rw [bigSep_W, bigSep_W]
  simp only [owns_whole_eq]
  exact sound_body' m c

end Cert.MoE
-- ==== Proof.Run.lean ====
/- The run of the kernel on the eight devices: the launch, and what every final state holds. -/
module

public import proofs.«01_k».proof.Proof.Obligation
public import Idealize.ShloMosaic.Lib.Quiescent
public import Idealize.ShloMosaic.Lib.Pipeline.CollectiveSegs
public import Idealize.ShloMosaic.Adequacy
public import Idealize.ShloMosaic.Init

@[expose] public section

noncomputable section

namespace Cert.MoE

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

open Idealize.ShloMosaic.Pipeline (Dat Cfg Window BodyObligation cellOf)

variable (ρ : Dev nD → PrngReg)

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iapply (scr_split (F := F) c); iexact Hr

theorem stage_lt : ∀ (w : Fin 6) (s : Fin (cfg0.win w).nbuf), ((cfg0.win w).sem s).val < 6 := by decide

theorem waits (c : Dev nD) : (levAts L lv : sProp 𝕄) ⊢ Pipeline.cellsWaits cfgs (dats m) () 0 c :=
  Pipeline.cellsWaits_intro cfgs (dats m) () 0 c fun w s t =>
    mayWait c (.dma ((cfg0.win w).sem s)) 0 (le_of_eq (if_pos (stage_lt w s))) _ (by
      rcases t with ⟨_ | _, ht⟩
      · exact above_O₀ c
      · exact above_zero 0)

/-- Each window's array after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with zero counters, every weakly fair execution of the eight devices terminates, and
    every final state has each window's array at its computed contents and every semaphore counter at zero. -/
theorem run_main : θ_run defs (onTc (τ := τ) (main (F := F))) (⟨m, fun _ => 0, ρ⟩ : MemSt nD τ sig (Elt F)) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began, -/
theorem finalA_in (c : Dev nD) (w : Fin 6) (hw : (cfg0.win w).isOut = false) : finalA m c w = m ((cfg0.win w).arr.view.loc (c : Thread nD τ)) :=
  (dats (F := F) m 0 c).arrAt_in w hw _
/-- and the result is what the body computes. -/
theorem finalA_out (c : Dev nD) : (win0_5.blk (0 : Fin 1)).view.read (Elt F) (finalA m c (5 : Fin 6)) = outAt m c := by
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from by decide, if_pos rfl]
  exact View.read_write_univ _ _

/-- The memory after the run: the five arguments unchanged, and the result what the body computes. -/
theorem run_ends : θ_run defs (onTc (τ := τ) (main (F := F))) (⟨m, fun _ => 0, ρ⟩ : MemSt nD τ sig (Elt F)) (fun r =>
    (∀ c : Dev nD, (win0_5.blk (0 : Fin 1)).view.read (Elt F) (r.2.mem ((c : Thread nD τ).loc main_v1)) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun r h => ⟨fun c =>
    ⟨(congrArg ((win0_5.blk (0 : Fin 1)).view.read (Elt F)) (h.1 c (5 : Fin 6))).trans (finalA_out m c),
      (h.1 c (0 : Fin 6)).trans (finalA_in m c 0 rfl), (h.1 c (1 : Fin 6)).trans (finalA_in m c 1 rfl), (h.1 c (2 : Fin 6)).trans (finalA_in m c 2 rfl),
      (h.1 c (3 : Fin 6)).trans (finalA_in m c 3 rfl), (h.1 c (4 : Fin 6)).trans (finalA_in m c 4 rfl)⟩, h.2⟩) (run_main m ρ)

end Cert.MoE
-- ==== Proof.Same.lean ====
/- The two printings of the kernel have one body table. -/
module

public import proofs.«01_k».proof.Defs
public import proofs.«01_k».proof.Proof.Gen.Kernel
public import proofs.«01_k».proof.Proof.Gen.KernelIdeal

@[expose] public section

noncomputable section

namespace Cert.MoE

open Idealize.ShloMosaic

variable {F : FTy → Type} [FloatOps F]

/-- The kernel functions of the two printings agree at every grid point and staging buffer. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- So do the body tables, pipelines included. -/
theorem defs_eq : Cert.Kernel.defs (F := F) = Cert.KernelIdeal.defs (F := F) :=
  congrArg (Pipeline.defs (Cert.KernelIdeal.pcfgs (F := F))) defs₀_eq

end Cert.MoE

end
-- ==== Proof.Mix.lean ====
module

public import Idealize.ShloMosaic.PureOps.Ideal
public import Mathlib.Data.EReal.Operations
public import Mathlib.Data.EReal.Inv

/-!
The mathematics of one token's result, over the extended reals: the softmax of its sixteen
scores, the output of an expert weighted by it, and the rounding of that output to 255 levels
between plus and minus its own largest entry.
-/

@[expose] public section

noncomputable section

namespace Cert.MoE

open Idealize.ShloMosaic

/-! ## The specification of a row -/

/-- The largest of finitely many values, started from the float word of minus infinity. -/
def top {n : ℕ} (s : Fin n → EReal) : EReal :=
  Finset.univ.fold max (Ideal.ofBits .f32 0xFF800000#32) s

/-- The softmax of the scores `s`, at `e`. -/
def soft (s : Fin 16 → EReal) (e : Fin 16) : EReal :=
  Ideal.div (Ideal.exp (s e - top s)) (∑ k, Ideal.exp (s k - top s))

/-- The size of a row: its largest magnitude, kept away from zero. -/
def size (y : Fin 512 → EReal) : EReal :=
  max (top fun k => FloatOps.absf (F := Ideal) (φ := .f32) (y k)) (Ideal.ofBits .f32 0x1E3CE508#32)

/-- The level an entry of a row is rounded to. -/
def level (y : Fin 512 → EReal) (h : Fin 512) : EReal :=
  Ideal.liftRound Ideal.roundHalfEven
    (y h * Ideal.div (Ideal.ofBits .f32 0x42FE0000#32) (size y))

/-- A row rounded to its own levels, at `h`. -/
def rounded (y : Fin 512 → EReal) (h : Fin 512) : EReal :=
  level y h * (size y * Ideal.ofBits .f32 0x3C010204#32)

/-! ## The rounding -/

/-- The word of minus infinity is read as minus infinity. -/
theorem ofBits_low : Ideal.ofBits .f32 0xFF800000#32 = ⊥ := by
  simp [Ideal.ofBits, Ideal.ieee]

/-- The word of 127. -/
theorem ofBits_127 : Ideal.ofBits .f32 0x42FE0000#32 = ((127 : ℝ) : EReal) := by
  simp [Ideal.ofBits, Ideal.ieee, -EReal.coe_mul]; norm_num

/-- The least size is positive. -/
theorem ofBits_least_pos : 0 < Ideal.ofBits .f32 0x1E3CE508#32 := by
  simp [Ideal.ofBits, Ideal.ieee, -EReal.coe_mul]

/-- Every value is at most the largest. -/
theorem le_top {n : ℕ} (s : Fin n → EReal) (k : Fin n) : s k ≤ top s :=
  (Finset.le_fold_max _).2 (Or.inr ⟨k, Finset.mem_univ _, le_rfl⟩)

/-- A row's size is positive. -/
theorem size_pos (y : Fin 512 → EReal) : 0 < size y :=
  lt_of_lt_of_le ofBits_least_pos (le_max_right _ _)

/-- No entry of a row exceeds its size. -/
theorem le_size (y : Fin 512 → EReal) (h : Fin 512) : y h ≤ size y ∧ -(y h) ≤ size y := by
  have := (le_top (fun k => FloatOps.absf (F := Ideal) (φ := .f32) (y k)) h).trans
    (le_max_left _ (Ideal.ofBits .f32 0x1E3CE508#32))
  exact ⟨(le_max_left _ _).trans this, (le_max_right _ _).trans this⟩

/-- Rounding keeps a number of `[-127, 127]` there. -/
theorem roundHalfEven_mem {r : ℝ} (h₁ : -127 ≤ r) (h₂ : r ≤ 127) :
    -127 ≤ Ideal.roundHalfEven r ∧ Ideal.roundHalfEven r ≤ 127 := by
  have hf : (-127 : ℤ) ≤ ⌊r⌋ := Int.le_floor.2 (by exact_mod_cast h₁)
  have hg : ⌊r⌋ ≤ 127 := by
    have : ((⌊r⌋ : ℤ) : ℝ) ≤ 127 := (Int.floor_le r).trans h₂
    exact_mod_cast this
  have hl := Int.floor_le r
  rcases hg.lt_or_eq with hg | hg
  · unfold Ideal.roundHalfEven
    dsimp only
    split_ifs <;> omega
  · have : r - (⌊r⌋ : ℤ) < 1 / 2 := by rw [hg]; push_cast; linarith
    unfold Ideal.roundHalfEven
    dsimp only
    rw [if_pos this]
    omega

/-- A level is a whole number of `[-127, 127]`. -/
theorem level_int (y : Fin 512 → EReal) (h : Fin 512) :
    ∃ n : ℤ, -127 ≤ n ∧ n ≤ 127 ∧ level y h = ((n : ℝ) : EReal) := by
  have hp := size_pos y
  obtain ⟨h₁, h₂⟩ := le_size y h
  unfold level
  rw [ofBits_127]
  rcases eq_or_ne (size y) ⊤ with hb | hb
  · refine ⟨0, by norm_num, by norm_num, ?_⟩
    have : Ideal.div ((127 : ℝ) : EReal) ⊤ = 0 := by simp [Ideal.div]
    rw [hb, this, mul_zero]
    have h0 : Ideal.roundHalfEven 0 = 0 := by simp [Ideal.roundHalfEven]
    change ((Ideal.roundHalfEven 0 : ℝ) : EReal) = _
    rw [h0]
  · obtain ⟨b, hb'⟩ : ∃ b : ℝ, size y = b :=
      ⟨(size y).toReal, (EReal.coe_toReal hb (ne_bot_of_gt hp)).symm⟩
    rw [hb'] at hp h₁ h₂ ⊢
    have hb0 : 0 < b := by exact_mod_cast hp
    obtain ⟨r, hr⟩ : ∃ r : ℝ, y h = r := by
      refine ⟨(y h).toReal, (EReal.coe_toReal (ne_top_of_le_ne_top (EReal.coe_ne_top b) h₁) ?_).symm⟩
      intro hy
      rw [hy, EReal.neg_bot] at h₂
      exact absurd (top_le_iff.1 h₂) (EReal.coe_ne_top b)
    rw [hr] at h₁ h₂ ⊢
    have g₁ : r ≤ b := by exact_mod_cast h₁
    have g₂ : -r ≤ b := by exact_mod_cast h₂
    rw [Ideal.div_coe hb0.ne', ← EReal.coe_mul, ← EReal.coe_mul]
    have k : r * (127 * (1 / b)) = 127 * (r / b) := by ring
    have k₁ : r / b ≤ 1 := (div_le_one hb0).2 g₁
    have k₂ : -1 ≤ r / b := by rw [le_div_iff₀ hb0]; linarith
    obtain ⟨m₁, m₂⟩ := roundHalfEven_mem (r := r * (127 * (1 / b)))
      (by rw [k]; linarith) (by rw [k]; linarith)
    exact ⟨_, m₁, m₂, rfl⟩

/-- A level survives the signed byte it travels in. -/
theorem level_byte (y : Fin 512 → EReal) (h : Fin 512) :
    FloatOps.sitofp (F := Ideal) .f32 (FloatOps.fptosi (F := Ideal) (φ := .f32) 8 (level y h))
      = level y h := by
  obtain ⟨n, h₁, h₂, hn⟩ := level_int y h
  rw [hn]
  change (((BitVec.ofInt 8 (Ideal.toIntClamped _ _ ((n : ℝ) : EReal))).toInt : ℝ) : EReal) = _
  rw [Ideal.toIntClamped_coe]
  have : (if 0 ≤ (n : ℝ) then ⌊(n : ℝ)⌋ else ⌈(n : ℝ)⌉) = n := by
    rw [Int.floor_intCast, Int.ceil_intCast, ite_self]
  rw [this, min_eq_right (by norm_num; omega), max_eq_right (by norm_num; omega),
    BitVec.toInt_ofInt_eq_self (by norm_num) (by norm_num; omega) (by norm_num; omega)]

/-! ## Rows of zeros and infinities -/

/-- A value is zero or infinite. -/
def Flat (a : EReal) : Prop := a = 0 ∨ a = ⊤ ∨ a = ⊥

/-- Minus infinity times anything is zero or infinite, -/
theorem flat_bot_mul (a : EReal) : Flat (⊥ * a) := by
  rcases lt_trichotomy a 0 with h | h | h
  · exact Or.inr (Or.inl (EReal.bot_mul_of_neg h))
  · exact Or.inl (by rw [h, mul_zero])
  · exact Or.inr (Or.inr (EReal.bot_mul_of_pos h))

/-- and so is a sum of such values. -/
theorem flat_sum {ι : Type} (s : Finset ι) (f : ι → EReal) (h : ∀ i, Flat (f i)) : Flat (∑ i ∈ s, f i) := by
  classical
  induction s using Finset.induction_on with
  | empty => exact Or.inl Finset.sum_empty
  | insert a s ha ih =>
    rw [Finset.sum_insert ha]
    rcases h a with h | h | h <;> rcases ih with k | k | k <;> rw [h, k] <;> simp [Flat]

/-- A row of zeros and infinities is rounded to zero. -/
theorem rounded_flat {y : Fin 512 → EReal} (hy : ∀ h, Flat (y h)) (h : Fin 512) : rounded y h = 0 := by
  have h0 : Ideal.roundHalfEven 0 = 0 := by simp [Ideal.roundHalfEven]
  have hp : y h * Ideal.div (Ideal.ofBits .f32 0x42FE0000#32) (size y) = 0 := by
    rcases eq_or_ne (size y) ⊤ with hb | hb
    · rw [hb, ofBits_127]
      have : Ideal.div ((127 : ℝ) : EReal) ⊤ = 0 := by simp [Ideal.div]
      rw [this, mul_zero]
    · obtain ⟨h₁, h₂⟩ := le_size y h
      rcases hy h with g | g | g
      · rw [g, zero_mul]
      · rw [g] at h₁; exact absurd (top_le_iff.1 h₁) hb
      · rw [g, EReal.neg_bot] at h₂; exact absurd (top_le_iff.1 h₂) hb
  have : level y h = 0 := by
    unfold level
    rw [hp]
    change ((Ideal.roundHalfEven 0 : ℝ) : EReal) = _
    rw [h0]; simp
  rw [rounded, this, zero_mul]

/-- The zero row is rounded to zero. -/
theorem rounded_zero (h : Fin 512) : rounded (fun _ => 0) h = 0 := rounded_flat (fun _ => Or.inl rfl) h

/-! ## The softmax of any scores -/

/-- A finite sum of real numbers is real. -/
theorem coe_sum {ι : Type} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Zero divided by zero is minus infinity. -/
theorem div_zero_zero : Ideal.div 0 0 = ⊥ := by simp [Ideal.div]

/-- The softmax is a nonnegative real number, or minus infinity (where the largest score is infinite). -/
theorem soft_cases (s : Fin 16 → EReal) (e : Fin 16) :
    (∃ p : ℝ, 0 ≤ p ∧ soft s e = p) ∨ soft s e = ⊥ := by
  by_cases hb : ∀ k, s k - top s = ⊥
  · right
    unfold soft
    simp only [hb, Ideal.exp_bot, Finset.sum_const_zero, div_zero_zero]
  · have hx : ∀ k, ∃ r : ℝ, 0 ≤ r ∧ Ideal.exp (s k - top s) = r := fun k => by
      by_cases hk : s k - top s = ⊥
      · exact ⟨0, le_rfl, by rw [hk, Ideal.exp_bot]; rfl⟩
      · have ht : top s ≠ ⊤ := fun h => hb fun k => by rw [h, EReal.sub_top]
        have hs : s k ≠ ⊤ := fun h => ht (top_le_iff.1 (h ▸ le_top s k))
        have hs' : s k ≠ ⊥ := fun h => hk (by rw [h, EReal.bot_sub])
        have ht' : top s ≠ ⊥ := fun h => hs' (le_bot_iff.1 (h ▸ le_top s k))
        rw [← EReal.coe_toReal hs hs', ← EReal.coe_toReal ht ht', ← EReal.coe_sub, Ideal.exp_coe]
        exact ⟨_, (Real.exp_pos _).le, rfl⟩
    choose r hr hx using hx
    unfold soft
    simp only [hx]
    rw [coe_sum]
    rcases eq_or_ne (∑ k, r k) 0 with h | h
    · right
      have := (Finset.sum_eq_zero_iff_of_nonneg fun k _ => hr k).1 h e (Finset.mem_univ _)
      rw [h, this]
      exact div_zero_zero
    · left
      refine ⟨r e * (1 / ∑ k, r k), mul_nonneg (hr e) (one_div_nonneg.2 (Finset.sum_nonneg fun k _ => hr k)), ?_⟩
      rw [Ideal.div_coe h, EReal.coe_mul]

/-- A nonnegative real factor comes out of a sum of extended reals. -/
theorem mul_sum_real {ι : Type} (s : Finset ι) {p : ℝ} (hp : 0 ≤ p) (f : ι → EReal) :
    (p : EReal) * ∑ i ∈ s, f i = ∑ i ∈ s, (p : EReal) * f i := by
  classical
  induction s using Finset.induction_on with
  | empty => simp
  | insert a s ha ih =>
    rw [Finset.sum_insert ha, Finset.sum_insert ha, ← ih,
      EReal.left_distrib_of_nonneg_of_ne_top (by exact_mod_cast hp) (EReal.coe_ne_top p)]

/-- Weighting a token before the expert's product or after it gives rows rounded alike. -/
theorem weigh {p : EReal} (hp : (∃ π : ℝ, 0 ≤ π ∧ p = π) ∨ p = ⊥) (x : Fin 256 → EReal)
    (w : Fin 256 → Fin 512 → EReal) (h : Fin 512) :
    rounded (fun h => ∑ j, x j * p * w j h) h = rounded (fun h => p * ∑ j, w j h * x j) h := by
  rcases hp with ⟨π, hπ, rfl⟩ | rfl
  · congr 1
    funext h
    rw [mul_sum_real _ hπ]
    refine Finset.sum_congr rfl fun j _ => ?_
    rw [mul_comm (x j), mul_assoc, mul_comm (x j)]
  · rw [rounded_flat (fun h => flat_bot_mul _), rounded_flat fun h => flat_sum _ _ fun j => ?_]
    rw [mul_comm (x j), mul_assoc]
    exact flat_bot_mul _

end Cert.MoE

end

end
-- ==== Proof.Rank.lean ====
module

public import proofs.«01_k».proof.Proof.Mix
public import Idealize.ShloMosaic.Lib.WordCmp

/-!
Which slot a token takes. A token's rank among those routed to one expert is the number of earlier
tokens routed there. The slot `s` of device `d` belongs to the expert `2 d + s / 64` and to the
token routed to it whose rank is `s % 64`; no two tokens share a slot and no token has two.
-/

@[expose] public section

noncomputable section

namespace Cert.MoE

open Idealize.ShloMosaic

variable (r : Fin 512 → BitVec 32)

/-- The number of tokens before `t` routed to `w`. -/
def rank (w : BitVec 32) (t : Fin 512) : ℕ := (Finset.univ.filter fun x => x < t ∧ r x = w).card

/-- The number of tokens routed to `w`. -/
def load (w : BitVec 32) : ℕ := (Finset.univ.filter fun x => r x = w).card

variable {r}

/-- Of two tokens routed to `w` the earlier has the smaller rank. -/
theorem rank_lt_rank {w : BitVec 32} {t u : Fin 512} (ht : r t = w) (h : t < u) :
    rank r w t < rank r w u := by
  refine Finset.card_lt_card ⟨fun x hx => ?_, fun hs => ?_⟩
  · simp only [Finset.mem_filter, Finset.mem_univ, true_and] at hx ⊢
    exact ⟨hx.1.trans h, hx.2⟩
  · have := hs (show t ∈ Finset.univ.filter fun x => x < u ∧ r x = w by simp [h, ht])
    simp at this

/-- Tokens routed to `w` are told apart by their ranks. -/
theorem rank_inj {w : BitVec 32} {t u : Fin 512} (ht : r t = w) (hu : r u = w)
    (h : rank r w t = rank r w u) : t = u := by
  rcases lt_trichotomy t u with g | g | g
  · have := rank_lt_rank ht g; omega
  · exact g
  · have := rank_lt_rank hu g; omega

/-- The rank of a token routed to `w` is below the number of such tokens. -/
theorem rank_lt_load {w : BitVec 32} {t : Fin 512} (ht : r t = w) : rank r w t < load r w := by
  refine Finset.card_lt_card ⟨fun x hx => ?_, fun hs => ?_⟩
  · simp only [Finset.mem_filter, Finset.mem_univ, true_and] at hx ⊢
    exact hx.2
  · have := hs (show t ∈ Finset.univ.filter fun x => r x = w by simp [ht])
    simp at this

/-- No rank exceeds 512. -/
theorem rank_le (w : BitVec 32) (t : Fin 512) : rank r w t ≤ 512 := by
  have := Finset.card_le_univ (Finset.univ.filter fun x : Fin 512 => x < t ∧ r x = w)
  simpa [rank] using this

/-! ## Slots -/

variable (r)

/-- The expert of the slot `s` of device `d`. -/
def expertOf (d : Fin 8) (s : Fin 128) : Fin 16 := ⟨2 * d.val + s.val / 64, by omega⟩

/-- The token `t` takes the slot `s` of device `d`. -/
def Takes (d : Fin 8) (s : Fin 128) (t : Fin 512) : Prop :=
  r t = BitVec.ofNat 32 (expertOf d s) ∧ rank r (BitVec.ofNat 32 (expertOf d s)) t = s.val % 64

instance (d : Fin 8) (s : Fin 128) (t : Fin 512) : Decidable (Takes r d s t) := by
  unfold Takes; infer_instance

variable {r}

/-- Two tokens do not share a slot. -/
theorem Takes.token {d : Fin 8} {s : Fin 128} {t u : Fin 512} (h : Takes r d s t)
    (g : Takes r d s u) : t = u := rank_inj h.1 g.1 (h.2.trans g.2.symm)

/-- Numbers below 16 are told apart by their words. -/
theorem ofNat_inj {a b : Fin 16} (h : BitVec.ofNat 32 a = BitVec.ofNat 32 b) : a = b := by
  have := congrArg BitVec.toNat h
  simp only [BitVec.toNat_ofNat] at this
  omega

/-- A token does not take two slots. -/
theorem Takes.slot {d d' : Fin 8} {s s' : Fin 128} {t : Fin 512} (h : Takes r d s t)
    (g : Takes r d' s' t) : d = d' ∧ s = s' := by
  have e := ofNat_inj (h.1.symm.trans g.1)
  have h2 := h.2
  have g2 := g.2
  rw [e] at h2
  have e' := congrArg Fin.val e
  simp only [expertOf] at e'
  omega

/-- A token routed to an expert within its capacity takes a slot of that expert. -/
theorem exists_takes {e : Fin 16} {t : Fin 512} (h : r t = BitVec.ofNat 32 e)
    (hc : load r (BitVec.ofNat 32 e) ≤ 64) : ∃ d s, expertOf d s = e ∧ Takes r d s t := by
  have hk := rank_lt_load h
  have he : expertOf ⟨e.val / 2, by omega⟩
      ⟨e.val % 2 * 64 + rank r (BitVec.ofNat 32 e) t, by omega⟩ = e :=
    Fin.ext (by simp only [expertOf]; omega)
  refine ⟨_, _, he, ?_⟩
  unfold Takes
  rw [he]
  exact ⟨h, by simp only; omega⟩

/-! ## Sums over tokens and over slots -/

/-- Of the tokens only the one that takes a slot counts towards it. -/
theorem sum_token {d : Fin 8} {s : Fin 128} {t : Fin 512} (h : Takes r d s t) (f : Fin 512 → EReal) :
    ∑ u, (if Takes r d s u then (1 : EReal) else 0) * f u = f t := by
  rw [Finset.sum_eq_single t, if_pos h, one_mul]
  · intro u _ hu
    rw [if_neg fun g => hu (g.token h), zero_mul]
  · exact fun h => absurd (Finset.mem_univ _) h

/-- Of the slots of a device only the one a token takes counts towards it. -/
theorem sum_slot {d : Fin 8} {s : Fin 128} {t : Fin 512} (h : Takes r d s t) (f : Fin 128 → EReal) :
    ∑ u, (if Takes r d u t then (1 : EReal) else 0) * f u = f s := by
  rw [Finset.sum_eq_single s, if_pos h, one_mul]
  · intro u _ hu
    rw [if_neg fun g => hu (g.slot h).2, zero_mul]
  · exact fun h => absurd (Finset.mem_univ _) h

/-- A device none of whose slots a token takes adds nothing to it. -/
theorem sum_slot_zero {d : Fin 8} {t : Fin 512} (h : ∀ s, ¬ Takes r d s t) (f : Fin 128 → EReal) :
    ∑ u, (if Takes r d u t then (1 : EReal) else 0) * f u = 0 :=
  Finset.sum_eq_zero fun u _ => by rw [if_neg (h u), zero_mul]

/-- What a token gets from all the devices is the entry of the slot it takes, -/
theorem sum_slots {d : Fin 8} {s : Fin 128} {t : Fin 512} (h : Takes r d s t)
    (f : Fin 8 → Fin 128 → EReal) :
    ∑ c, ∑ u, (if Takes r c u t then (1 : EReal) else 0) * f c u = f d s := by
  rw [Finset.sum_eq_single d, sum_slot h]
  · intro c _ hc
    exact sum_slot_zero (fun u g => hc (g.slot h).1) _
  · exact fun h => absurd (Finset.mem_univ _) h

/-- and nothing if it takes none. -/
theorem sum_slots_zero {t : Fin 512} (h : ∀ d s, ¬ Takes r d s t) (f : Fin 8 → Fin 128 → EReal) :
    ∑ c, ∑ u, (if Takes r c u t then (1 : EReal) else 0) * f c u = 0 :=
  Finset.sum_eq_zero fun c _ => sum_slot_zero (h c) _

/-! ## The words the ranks are computed by -/

/-- A bit widened and read as a float is one or zero. -/
theorem bit_read (b : BitVec 1) :
    FloatOps.sitofp (F := Ideal) .f32 (b.setWidth 32) = if b = 1#1 then 1 else 0 := by
  have : b = 0#1 ∨ b = 1#1 := by
    revert b; decide
  rcases this with rfl | rfl
  · change (((0#1).setWidth 32).toInt : ℝ) = ((0 : ℝ) : EReal)
    norm_num
  · change ((((1#1).setWidth 32).toInt : ℝ) : EReal) = ((1 : ℝ) : EReal)
    norm_num

/-- The test for equal words. -/
theorem eq_read (a b : BitVec 32) :
    FloatOps.sitofp (F := Ideal) .f32 ((IntOp.cmpi .eq a b).setWidth 32) = if a = b then 1 else 0 := by
  rw [bit_read, WordCmp.cmpi_eq_eq]
  by_cases h : a = b <;> simp [h]

/-- The test for an earlier token. -/
theorem before_read (t x : Fin 512) :
    FloatOps.sitofp (F := Ideal) .f32
      ((IntOp.cmpi .sgt (BitVec.ofNat 32 t) (BitVec.ofNat 32 x)).setWidth 32) = if x < t then 1 else 0 := by
  rw [bit_read]
  refine if_congr ?_ rfl rfl
  exact (WordCmp.cmpi_sgt_ofNat_eq_one_iff (by have := t.isLt; omega) (by have := x.isLt; omega)).trans Fin.lt_def.symm

/-- Counting earlier tokens of an expert gives the rank. -/
theorem rank_read (w : BitVec 32) (t : Fin 512) :
    ∑ x, (if x < t then (1 : EReal) else 0) * (if r x = w then 1 else 0) = ((rank r w t : ℝ) : EReal) := by
  have : ∀ x, (if x < t then (1 : EReal) else 0) * (if r x = w then 1 else 0)
      = ((if x < t ∧ r x = w then (1 : ℝ) else 0 : ℝ) : EReal) := fun x => by
    by_cases h : x < t <;> by_cases g : r x = w <;> simp [h, g]
  rw [Finset.sum_congr rfl fun x _ => this x, coe_sum, Finset.sum_boole]
  rfl

/-- Counting the tokens of an expert gives its load. -/
theorem load_read (w : BitVec 32) :
    ∑ x, (if r x = w then 1 else 0) = load r w := by
  rw [Finset.sum_boole, load, Nat.cast_id]

/-- The column of an expert is picked out by comparing words. -/
theorem pick_read (f : Fin 16 → EReal) (e : Fin 16) :
    ∑ x : Fin 16, f x * (if BitVec.ofNat 32 x = BitVec.ofNat 32 e then 1 else 0) = f e := by
  rw [Finset.sum_eq_single e, if_pos rfl, mul_one]
  · intro u _ hu
    rw [if_neg fun g => hu (ofNat_inj g), mul_zero]
  · exact fun h => absurd (Finset.mem_univ _) h

/-- A small natural number is read as its word. -/
theorem nat_word {k : ℕ} (h : k ≤ 512) :
    FloatOps.fptosi (F := Ideal) (φ := .f32) 32 ((k : ℝ) : EReal) = BitVec.ofNat 32 k := by
  change BitVec.ofInt 32 (Ideal.toIntClamped _ _ ((k : ℝ) : EReal)) = _
  rw [Ideal.toIntClamped_coe, if_pos (Nat.cast_nonneg k), Int.floor_natCast,
    min_eq_right (by norm_num; omega), max_eq_right (by norm_num)]
  simp

/-- A word is the word of a slot's place exactly when the numbers agree. -/
theorem place_word {k s : ℕ} (h : k ≤ 512) (g : s < 64) :
    BitVec.ofNat 32 k = BitVec.ofNat 32 s ↔ k = s := by
  constructor
  · intro e
    have := congrArg BitVec.toNat e
    simp only [BitVec.toNat_ofNat] at this
    omega
  · rintro rfl; rfl

end Cert.MoE

end

end
-- ==== Proof.Dispatch.lean ====
module

public import proofs.«01_k».proof.Proof.Contents
public import proofs.«01_k».proof.Proof.Rank
public import Idealize.ShloMosaic.Lib.Pointwise

/-!
The dispatch of a device, read over the extended reals: which slot each token takes, and what the
rows it sends hold.
-/

@[expose] public section

noncomputable section

namespace Cert.MoE

open Cert.KernelIdeal Cert.KernelIdeal.Gen
open Idealize.ShloMosaic Idealize.ShloMosaic.TcCoe

variable (m : (ℓ : Loc nD τ sig) → Buf (Elt Ideal) ℓ)

/-- The expert each token of device `c` is routed to, as a word. -/
def routeOf (c : Dev nD) (t : Fin 512) : BitVec 32 := rtS m c (ix2 t (0 : Fin 1))

/-- A token's entries on device `c`, -/
def tokenOf (c : Dev nD) (t : Fin 512) (j : Fin 256) : EReal := xS m c (ix2 t j)
/-- the scores' weights, -/
def gateOf (c : Dev nD) (j : Fin 256) (e : Fin 16) : EReal := rwS m c (ix2 j e)
/-- its scores, -/
def scoreOf (c : Dev nD) (t : Fin 512) (e : Fin 16) : EReal := ∑ j, tokenOf m c t j * gateOf m c j e
/-- and the entries weighted by the softmax of the score of its expert. -/
def sentOf (c : Dev nD) (t : Fin 512) (j : Fin 256) : EReal :=
  tokenOf m c t j * ∑ e, soft (scoreOf m c t) e * (if routeOf m c t = BitVec.ofNat 32 e then 1 else 0)

/-! ## Slots -/

/-- A slot's expert, of the two of its device, -/
theorem half_read (s : Fin 128) : k0_pay7 (ix2 (0 : Fin 1) s) = BitVec.ofNat 32 (s.val / 64) := by
  pointwise [k0_pay7]
  revert s
  decide
/-- its place among that expert's slots, -/
theorem place_read (s : Fin 128) : k0_pay8 (ix2 (0 : Fin 1) s) = BitVec.ofNat 32 (s.val % 64) := by
  pointwise [k0_pay8]
  revert s
  decide
/-- and its expert among all. -/
theorem expert_word (d : Fin 8) (s : Fin 128) :
    IntOp.addi (BitVec.ofNat 32 (2 * d.val)) (k0_pay7 (ix2 (0 : Fin 1) s)) = BitVec.ofNat 32 (expertOf d s) := by
  rw [half_read]
  exact (BitVec.ofNat_add _ _).symm

/-- Whether a token takes a slot, as the kernel computes it from the slot's expert `w` and place `p`. -/
def taken (v35 : IVec S512x1 32) (v66 : FVec Ideal S512x16 .f32) (w p : BitVec 32) (t : Fin 512) : EReal :=
  FloatOps.sitofp (F := Ideal) .f32 ((IntOp.andi (IntOp.cmpi .eq (v35 (ix2 t (0 : Fin 1))) w)
    (IntOp.cmpi .eq (FloatOps.fptosi (F := Ideal) (φ := .f32) 32
      (∑ x : Fin 16, v66 (ix2 t x) * FloatOps.sitofp (F := Ideal) .f32 ((IntOp.cmpi .eq (BitVec.ofNat 32 x.val) w).setWidth 32))) p)).setWidth 32)

/-- That is one when it does and zero when it does not. -/
theorem taken_read (v35 : IVec S512x1 32) (v66 : FVec Ideal S512x16 .f32) {r : Fin 512 → BitVec 32} (d : Fin 8) (s : Fin 128) (t : Fin 512)
    (h35 : v35 (ix2 t (0 : Fin 1)) = r t) (h66 : ∀ e : Fin 16, v66 (ix2 t e) = ((rank r (BitVec.ofNat 32 e) t : ℝ) : EReal)) :
    taken v35 v66 (BitVec.ofNat 32 (expertOf d s)) (BitVec.ofNat 32 (s.val % 64)) t = if Takes r d s t then 1 else 0 := by
  unfold taken
  simp only [eq_read]
  rw [pick_read (fun x => v66 (ix2 t x)), h66, nat_word (rank_le _ _), h35, bit_read, WordCmp.cmpi_eq_eq, WordCmp.cmpi_eq_eq]
  refine if_congr ?_ rfl rfl
  unfold Takes
  rw [← place_word (rank_le (r := r) (BitVec.ofNat 32 (expertOf d s)) t) (Nat.mod_lt s.val (by norm_num : 0 < 64))]
  by_cases h : r t = BitVec.ofNat 32 (expertOf d s) <;>
    by_cases g : BitVec.ofNat 32 (rank r (BitVec.ofNat 32 (expertOf d s)) t) = BitVec.ofNat 32 (s.val % 64) <;> simp [h, g, IntOp.andi]

theorem v35_read (c : Dev nD) (t : Fin 512) : v35 m c (ix2 t (0 : Fin 1)) = routeOf m c t := by
  pointwise [v35, k0_pay2]
  rfl

theorem v53_read (c : Dev nD) (t : Fin 512) (e : Fin 16) :
    v53 m c (ix2 t e) = if routeOf m c t = BitVec.ofNat 32 e then 1 else 0 := by
  rw [← eq_read]
  pointwise [v53, k0_pay3, k0_pay2]
  rfl

/-- The rank of each token among those of each expert. -/
theorem v66_read (c : Dev nD) (t : Fin 512) (e : Fin 16) :
    v66 m c (ix2 t e) = ((rank (routeOf m c) (BitVec.ofNat 32 e) t : ℝ) : EReal) := by
  rw [← rank_read]
  pointwise [v66, k0_pay6, k0_pay5]
  simp only [before_read, v53_read]

/-- The weighted tokens. -/
theorem v60_read (c : Dev nD) (t : Fin 512) (j : Fin 256) : v60 m c (ix2 t j) = sentOf m c t j := by
  have h : ∀ e : Fin 16, k0_pay3 (rtS m c) (ix2 t e) = if routeOf m c t = BitVec.ofNat 32 e then (1 : EReal) else 0 := v53_read m c t
  pointwise [v60, k0_pay4, k0_pay1]
  simp only [h]
  rfl

set_option maxHeartbeats 1600000 in
/-- The table of the slots of device `d`. -/
theorem dd_read (c : Dev nD) (d : Fin 8) (t : Fin 512) (s : Fin 128) :
    ddPay m c d (ix2 t s) = if Takes (routeOf m c) d s t then 1 else 0 := by
  rw [← taken_read (v35 m c) (v66 m c) d s t (v35_read m c t) (v66_read m c t), ← place_read, ← expert_word]
  unfold taken
  fin_cases d <;>
    (pointwise [ddPay, k0_pay9, k0_pay10, k0_pay12, k0_pay14, k0_pay15, k0_pay17, k0_pay19, k0_pay20, k0_pay22, k0_pay24, k0_pay25, k0_pay27])

set_option maxHeartbeats 1600000 in
/-- The rows sent to device `d`. -/
theorem a_read (c : Dev nD) (d : Fin 8) (s : Fin 128) (j : Fin 256) :
    aPay m c d (ix3 (0 : Fin 1) s j) = ∑ t, (if Takes (routeOf m c) d s t then 1 else 0) * sentOf m c t j := by
  simp only [← dd_read m c d, ← v60_read]
  fin_cases d <;>
    (pointwise [aPay, ddPay, k0_pay11, k0_pay13, k0_pay16, k0_pay18, k0_pay21, k0_pay23, k0_pay26, k0_pay28])

/-- A slot a token takes holds that token's weighted entries. -/
theorem a_taken (c : Dev nD) {d : Fin 8} {s : Fin 128} {t : Fin 512} (h : Takes (routeOf m c) d s t) (j : Fin 256) :
    aPay m c d (ix3 (0 : Fin 1) s j) = sentOf m c t j :=
  (a_read m c d s j).trans (sum_token h fun t => sentOf m c t j)

end Cert.MoE

end

end
-- ==== Proof.Experts.lean ====
module

public import proofs.«01_k».proof.Proof.Dispatch

/-!
The experts' outputs as they come back, and the kernel's result on a device: the shared expert's
output plus, of each slot its token takes, the rounded output of that slot's expert.
-/

@[expose] public section

noncomputable section

namespace Cert.MoE

open Cert.KernelIdeal Cert.KernelIdeal.Gen
open Idealize.ShloMosaic Idealize.ShloMosaic.TcCoe

variable (m : (ℓ : Loc nD τ sig) → Buf (Elt Ideal) ℓ)

/-- The weights of a device's two experts, -/
def expertW (d : Dev nD) (k : Fin 2) (j : Fin 256) (h : Fin 512) : EReal := ewS m d (ix3 k j h)
/-- the shared expert's output for a token, -/
def sharedOf (c : Dev nD) (t : Fin 512) (h : Fin 512) : EReal := ∑ j, tokenOf m c t j * swS m c (ix2 j h)
/-- which of its device's two experts a slot belongs to, -/
def halfOf (s : Fin 128) : Fin 2 := ⟨s.val / 64, by omega⟩
/-- and that expert's output for the row device `c` put in the slot `s` of device `d`. -/
def prodOf (c d : Dev nD) (s : Fin 128) (h : Fin 512) : EReal :=
  ∑ j, aPay m c d (ix3 (0 : Fin 1) s j) * expertW m d (halfOf s) j h

/-! ## What a device receives -/

/-- Device `d` receives from device `c` the rows device `c` sends it; -/
theorem bL_eq (d c : Dev nD) : bL m d c = aPay m c d :=
  funext fun y => (exch_emb (aC m) d c y).trans (fill_emb (aPay m c) d y)
/-- device `c` gets back from device `d` the results device `d` computed for it, -/
theorem rL_eq (c d : Dev nD) : rL m c d = pPay m d c :=
  funext fun y => (exch_emb (pC m) c d y).trans (fill_emb (pPay m d) c y)
/-- and their scales. -/
theorem tL_eq (c d : Dev nD) : tL m c d = uPay m d c :=
  funext fun y => (exch_emb (uC m) c d y).trans (fill_emb (uPay m d) c y)

/-! ## The experts -/

/-- Loading the block `k` of the weights reads those of the expert `k`. -/
theorem half_at (d : Dev nD) (k : Fin 2) (hk) (j : Fin 256) (h : Fin 512) :
    (View.whole cc0_stg3_0).readAt (Elt Ideal) (Rect.unit (s := S2x256x512) ![k.val, 0, 0] ![1, 256, 512] hk).toLoadRect
      (ewS m d) (ix3 (0 : Fin 1) j h) = expertW m d k j h := by
  refine congrArg (ewS m d) (funext fun a => Fin.ext ?_)
  match a with
  | ⟨0, _⟩ => exact (Nat.add_zero k.val)
  | ⟨1, _⟩ => show 0 + 1 * j.val = j.val; omega
  | ⟨2, _⟩ => show 0 + 1 * h.val = h.val; omega

theorem v344_read (d : Dev nD) (j : Fin 256) (h : Fin 512) : v344 m d (ix2 j h) = expertW m d 0 j h := by
  pointwise [v344, k0_pay38]
  exact half_at m d 0 inb_S2x256x512_S1x256x512_0_0_0 j h
theorem v346_read (d : Dev nD) (j : Fin 256) (h : Fin 512) : v346 m d (ix2 j h) = expertW m d 1 j h := by
  pointwise [v346, k0_pay39]
  exact half_at m d 1 inb_S2x256x512_S1x256x512_1_0_0 j h

/-- The first half of the slots is the first expert's. -/
theorem half_select (s : Fin 128) (a b : EReal) :
    Scalar.select (k0_pay40 (ix2 s (0 : Fin 1))) a b = if halfOf s = 0 then b else a := by
  have : k0_pay40 (ix2 s (0 : Fin 1)) = BitVec.ofBool (decide (halfOf s ≠ 0)) := by
    pointwise [k0_pay40]
    revert s
    decide
  rw [this, Scalar.select]
  by_cases h : halfOf s = 0 <;> simp [h]

/-- An expert's output. -/
theorem prod_read (c d : Dev nD) (s : Fin 128) (h : Fin 512) :
    k0_pay41 (v344 m d) (v346 m d) k0_pay40 (aPay m c d) (ix2 s h) = prodOf m c d s h := by
  pointwise [k0_pay41]
  rw [half_select]
  unfold prodOf
  split_ifs with g
  · rw [g]; simp only [v344_read]
  · rw [show halfOf s = 1 by omega]; simp only [v346_read]

theorem size_read (c d : Dev nD) (s : Fin 128) :
    k0_pay42 (v344 m d) (v346 m d) k0_pay40 (aPay m c d) (ix2 s (0 : Fin 1)) = size (prodOf m c d s) := by
  pointwise [k0_pay42]
  simp only [prod_read]
  rfl

/-- The levels the output is rounded to, as signed bytes, -/
theorem p_read (c d : Dev nD) (s : Fin 128) (h : Fin 512) :
    pPay m d c (ix3 (0 : Fin 1) s h) = FloatOps.fptosi (F := Ideal) (φ := .f32) 8 (level (prodOf m c d s) h) := by
  have h₁ := prod_read m c d s h
  have h₂ := size_read m c d s
  unfold pPay
  rw [bL_eq]
  pointwise [k0_pay43]
  rw [h₁, h₂]
  rfl
/-- and its scale. -/
theorem u_read (c d : Dev nD) (s : Fin 128) :
    uPay m d c (ix3 (0 : Fin 1) s (0 : Fin 1)) = size (prodOf m c d s) * Ideal.ofBits .f32 0x3C010204#32 := by
  have h₂ := size_read m c d s
  unfold uPay
  rw [bL_eq]
  pointwise [k0_pay44]
  rw [h₂]

/-- A level times its scale is the rounded output. -/
theorem back_read (c d : Dev nD) (s : Fin 128) (h : Fin 512) :
    FloatOps.sitofp (F := Ideal) .f32 (rL m c d (ix3 (0 : Fin 1) s h)) * tL m c d (ix3 (0 : Fin 1) s (0 : Fin 1))
      = rounded (prodOf m c d s) h := by
  rw [rL_eq, tL_eq, p_read, u_read, level_byte]
  rfl

/-! ## The result -/

/-- What device `d`'s slots add to a token. -/
def addsOf (c d : Dev nD) (t h : Fin 512) : EReal :=
  ∑ s, (if Takes (routeOf m c) d s t then 1 else 0) * rounded (prodOf m c d s) h

theorem adds_read (c d : Dev nD) (t h : Fin 512) :
    ∑ s, ddPay m c d (ix2 t s) * (FloatOps.sitofp (F := Ideal) .f32 (rL m c d (ix3 (0 : Fin 1) s h)) * tL m c d (ix3 (0 : Fin 1) s (0 : Fin 1)))
      = addsOf m c d t h := by
  unfold addsOf
  exact Finset.sum_congr rfl fun s _ => by rw [back_read, dd_read]

theorem shared_read (c : Dev nD) (t h : Fin 512) : v342 m c (ix2 t h) = sharedOf m c t h := by
  pointwise [v342, v33, k0_pay37, k0_pay1]
  rfl

/-- The result: the shared expert's output and what each device's slots add. -/
theorem out_read (c : Dev nD) (t h : Fin 512) :
    outAt m c (ix2 t h) = sharedOf m c t h + ∑ d, addsOf m c d t h := by
  rw [Fin.sum_univ_eight]
  simp only [← adds_read, ← shared_read, ← add_assoc]
  pointwise [outAt, v720, v694, v655, k0_pay89, k0_pay90, k0_pay91, k0_pay92, k0_pay93]

end Cert.MoE

end

end
-- ==== Proof.RefValue.lean ====
module

public import proofs.«01_k».proof.Proof.Gen.ReferenceIdeal.Run
public import proofs.«01_k».proof.Proof.Rank
public import Idealize.ShloMosaic.Lib.Pointwise

/-!
The reference's result, read over the extended reals: a token's row is the shared expert's output
plus the rounded sum of the experts' outputs weighted by the softmax where the token is routed.
-/

@[expose] public section

noncomputable section

namespace Cert.MoE.Ref

open Cert.ReferenceIdeal Cert.ReferenceIdeal.Gen
open Idealize.ShloMosaic Idealize.ShloMosaic.TcCoe

variable (m : (ℓ : Loc nD τ sig) → Buf (Elt Ideal) ℓ)

/-- The arguments: the tokens, -/
def token (t : Fin 4096) (j : Fin 256) : EReal := m (((0 : Dev nD) : Thread nD τ).loc main_arg0) (ix2 t j)
/-- the scores' weights, -/
def gate (j : Fin 256) (e : Fin 16) : EReal := m (((0 : Dev nD) : Thread nD τ).loc main_arg1) (ix2 j e)
/-- the expert each token is routed to, -/
def route (t : Fin 4096) : BitVec 32 := m (((0 : Dev nD) : Thread nD τ).loc main_arg2) (ix2 t (0 : Fin 1))
/-- the experts' weights -/
def expert (e : Fin 16) (j : Fin 256) (h : Fin 512) : EReal := m (((0 : Dev nD) : Thread nD τ).loc main_arg3) (ix3 e j h)
/-- and the shared expert's. -/
def shared (j : Fin 256) (h : Fin 512) : EReal := m (((0 : Dev nD) : Thread nD τ).loc main_arg4) (ix2 j h)

/-- A token's scores, -/
def score (t : Fin 4096) (e : Fin 16) : EReal := ∑ j, token m t j * gate m j e
/-- and the sum of the experts' outputs for it. -/
def mixed (t : Fin 4096) (h : Fin 512) : EReal :=
  ∑ e : Fin 16, (if route m t = BitVec.ofNat 32 e then soft (score m t) e else 0) * ∑ j, expert m e j h * token m t j

/-- Choosing where words agree, zero elsewhere. -/
theorem chosen_read (a b : BitVec 32) (p : EReal) :
    Scalar.select (IntOp.cmpi .eq a b) p (id (constant (F := Ideal) S_ FTy.f32 0#32) ix0) = if a = b then p else 0 := by
  have : (id (constant (F := Ideal) S_ FTy.f32 0#32) ix0 : EReal) = 0 := Ideal.ofBits_zero_f32
  rw [this, WordCmp.cmpi_eq_eq, Scalar.select]
  by_cases h : a = b <;> simp [h]

theorem out_read (t : Fin 4096) (h : Fin 512) :
    Cert.ReferenceIdeal.Value.res_main_v41 (F := Ideal) m 0 (ix2 t h)
      = ∑ j, token m t j * shared m j h + rounded (mixed m t) h := by
  pointwise [Cert.ReferenceIdeal.Value.res_main_v41]
  simp only [chosen_read]
  rfl

end Cert.MoE.Ref

end

end
-- ==== Proof.Agree.lean ====
module

public import proofs.«01_k».proof.Proof.Experts
public import proofs.«01_k».proof.Proof.RefValue

/-!
The kernel's result on a device is the reference's on that device's tokens, where no expert is
over its capacity.
-/

@[expose] public section

noncomputable section

namespace Cert.MoE

open Cert.KernelIdeal Cert.KernelIdeal.Gen
open Idealize.ShloMosaic Idealize.ShloMosaic.TcCoe

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- Device `c`'s token `t` among all. -/
def row (c : Dev nD) (t : Fin 512) : Fin 4096 := ⟨c.val * 512 + t.val, by
  have : c.val < 8 := c.isLt
  omega⟩

/-- Device `d`'s expert `k` among all. -/
def nth (d : Dev nD) (k : Fin 2) : Fin 16 := ⟨d.val * 2 + k.val, by
  have : d.val < 8 := d.isLt
  omega⟩

/-- The devices hold their parts of the reference's arguments. -/
structure Parts : Prop where
  token : ∀ c t j, tokenOf m c t j = Ref.token m' (row c t) j
  gate : ∀ c j e, gateOf m c j e = Ref.gate m' j e
  route : ∀ c t, routeOf m c t = Ref.route m' (row c t)
  expert : ∀ d k j h, expertW m d k j h = Ref.expert m' (nth d k) j h
  shared : ∀ c j h, swS m c (ix2 j h) = Ref.shared m' j h

/-- No expert's slots on device `c` overflow. -/
def Within (c : Dev nD) : Prop := ∀ e : Fin 16, load (routeOf m c) (BitVec.ofNat 32 e) ≤ 64

variable {m m'}

/-- Scores agree. -/
theorem Parts.score (P : Parts m m') (c : Dev nD) (t : Fin 512) : scoreOf m c t = Ref.score m' (row c t) :=
  funext fun e => Finset.sum_congr rfl fun j _ => by rw [P.token, P.gate]

/-- The row of a token routed to the expert `e`: its slot's output is rounded as the reference's sum. -/
theorem prod_eq (P : Parts m m') {c : Dev nD} {t : Fin 512} {e : Fin 16}
    (hr : routeOf m c t = BitVec.ofNat 32 e) {d : Fin 8} {s : Fin 128} (he : expertOf d s = e)
    (ht : Takes (routeOf m c) d s t) (h : Fin 512) :
    rounded (prodOf m c d s) h = rounded (Ref.mixed m' (row c t)) h := by
  have sent : ∀ j, sentOf m c t j = tokenOf m c t j * soft (scoreOf m c t) e := fun j => by
    unfold sentOf
    rw [Finset.sum_eq_single e, if_pos hr, mul_one]
    · intro u _ hu
      rw [if_neg fun g => hu (ofNat_inj (g.symm.trans hr)), mul_zero]
    · exact fun h => absurd (Finset.mem_univ _) h
  have hk : nth d (halfOf s) = e := by
    rw [← he]
    exact Fin.ext (by simp only [nth, halfOf, expertOf]; omega)
  have h₁ : prodOf m c d s = fun h => ∑ j, tokenOf m c t j * soft (scoreOf m c t) e * expertW m d (halfOf s) j h :=
    funext fun h => Finset.sum_congr rfl fun j _ => by rw [a_taken m c ht, sent]
  have h₂ : Ref.mixed m' (row c t) = fun h => soft (scoreOf m c t) e * ∑ j, expertW m d (halfOf s) j h * tokenOf m c t j := by
    funext h
    unfold Ref.mixed
    rw [Finset.sum_eq_single e, ← P.route, if_pos hr, ← P.score]
    · simp only [P.expert, hk, P.token]
    · intro u _ hu
      rw [← P.route, if_neg fun g => hu (ofNat_inj (g.symm.trans hr)), zero_mul]
    · exact fun h => absurd (Finset.mem_univ _) h
  rw [h₁, h₂]
  exact weigh (soft_cases _ e) _ _ h

/-- What the devices add to a token is its rounded sum of experts' outputs. -/
theorem adds_eq (P : Parts m m') {c : Dev nD} (W : Within m c) (t h : Fin 512) :
    ∑ d, addsOf m c d t h = rounded (Ref.mixed m' (row c t)) h := by
  unfold addsOf
  by_cases hr : ∃ e : Fin 16, routeOf m c t = BitVec.ofNat 32 e
  · obtain ⟨e, hr⟩ := hr
    obtain ⟨d, s, he, ht⟩ := exists_takes hr (W e)
    exact (sum_slots ht fun d s => rounded (prodOf m c d s) h).trans (prod_eq P hr he ht h)
  · refine (sum_slots_zero (fun d s g => hr ⟨_, g.1⟩) fun d s => rounded (prodOf m c d s) h).trans ?_
    have : Ref.mixed m' (row c t) = fun _ => 0 := funext fun h => Finset.sum_eq_zero fun e _ => by
      rw [← P.route, if_neg fun g => hr ⟨e, g⟩, zero_mul]
    rw [this, rounded_zero]

/-- The results agree. -/
theorem out_eq (P : Parts m m') {c : Dev nD} (W : Within m c) (t h : Fin 512) :
    outAt m c (ix2 t h) = Cert.ReferenceIdeal.Value.res_main_v41 (F := Ideal) m' 0 (ix2 (row c t) h) := by
  rw [out_read, Ref.out_read, adds_eq P W]
  congr 1
  exact Finset.sum_congr rfl fun j _ => by rw [P.token, P.shared]

end Cert.MoE

end

end
-- ==== Proof.Capacity.lean ====
module

public import proofs.«01_k».proof.Pre_within_capacity_KernelIdeal
public import proofs.«01_k».proof.Proof.Rank
public import Idealize.ShloMosaic.Lib.Pointwise

/-!
What the precondition says of one device's arguments: at most 64 of its tokens are routed to each
expert.
-/

@[expose] public section

noncomputable section

namespace Cert.MoE

open Cert.Pre_within_capacity_KernelIdeal
open Idealize.ShloMosaic

/-- A conjunction of bits is one only if every bit is. -/
theorem all_of_fold {ι : Type} [DecidableEq ι] (s : Finset ι) (f : ι → BitVec 1)
    (h : s.fold IntOp.andi (1#1) f = 1#1) : ∀ i ∈ s, f i = 1#1 := by
  induction s using Finset.induction_on with
  | empty => simp
  | insert a s ha ih =>
    rw [Finset.fold_insert ha] at h
    have two : ∀ a b : BitVec 1, IntOp.andi a b = 1#1 → a = 1#1 ∧ b = 1#1 := by decide
    obtain ⟨h₁, h₂⟩ := two _ _ h
    intro i hi
    rcases Finset.mem_insert.1 hi with rfl | hi
    · exact h₁
    · exact ih h₂ i hi

/-- Counting words equal to `w` in words. -/
theorem count_word {ι : Type} [DecidableEq ι] (s : Finset ι) (f : ι → BitVec 32) (w : BitVec 32) :
    s.fold IntOp.addi (0#32) (fun i => (IntOp.cmpi .eq (f i) w).setWidth 32)
      = BitVec.ofNat 32 (s.filter fun i => f i = w).card := by
  induction s using Finset.induction_on with
  | empty => simp
  | insert a s ha ih =>
    rw [Finset.fold_insert ha, ih, WordCmp.cmpi_eq_eq, Finset.filter_insert]
    by_cases h : f a = w
    · rw [if_pos h, Finset.card_insert_of_notMem (by simp [ha]), Nat.add_comm, BitVec.ofNat_add]
      simp [h, IntOp.addi]
    · rw [if_neg h]
      simp [h, IntOp.addi]

/-- The precondition: no expert over its capacity. -/
theorem capacity_read [Cert.Pre_within_capacity_KernelIdeal.Facts] {x : FVec Ideal S512x256 .bf16}
    {w : FVec Ideal S256x16 .bf16} {r : IVec S512x1 32} {e : FVec Ideal S2x256x512 .bf16} {s : FVec Ideal S256x512 .bf16}
    (h : fn (F := Ideal) x w r e s = fun _ => 1#1) (e : Fin 16) :
    load (fun t => r (ix2 t (0 : Fin 1))) (BitVec.ofNat 32 e) ≤ 64 := by
  have h := congrFun h ix0
  pointwise [fn] at h
  have k := all_of_fold _ _ h e (Finset.mem_univ _)
  rw [count_word] at k
  have hc : (Finset.univ.filter fun t : Fin 512 => r (ix2 t (0 : Fin 1)) = BitVec.ofNat 32 e).card ≤ 512 := by
    simpa using Finset.card_le_univ (Finset.univ.filter fun t : Fin 512 => r (ix2 t (0 : Fin 1)) = BitVec.ofNat 32 e)
  exact (WordCmp.cmpi_sle_ofNat_eq_one_iff (lt_of_le_of_lt hc (by norm_num)) (by norm_num)).1 k

end Cert.MoE

end

end
-- ==== Proof.Whole.lean ====
module

public import proofs.«01_k».proof.Proof.Contents

/-!
Each argument and the result is staged whole: what a window reads of an array is the array.
-/

@[expose] public section

noncomputable section

namespace Cert.MoE

open Cert.KernelIdeal Cert.KernelIdeal.Gen
open Idealize.ShloMosaic Idealize.ShloMosaic.TcCoe

variable {F : FTy → Type} [FloatOps F]
variable (m : (ℓ : Loc nD τ sig) → Buf (Elt F) ℓ)

theorem whole0 (c : Dev nD) : xS m c = m ((c : Thread nD τ).loc main_arg0) :=
  Memref.read_access_unit_zero (Elt F) main_arg0 (funext fun a => by fin_cases a <;> decide) (fun a => by fin_cases a <;> decide) _
theorem whole1 (c : Dev nD) : rwS m c = m ((c : Thread nD τ).loc main_arg1) :=
  Memref.read_access_unit_zero (Elt F) main_arg1 (funext fun a => by fin_cases a <;> decide) (fun a => by fin_cases a <;> decide) _
theorem whole2 (c : Dev nD) : rtS m c = m ((c : Thread nD τ).loc main_arg2) :=
  Memref.read_access_unit_zero (Elt F) main_arg2 (funext fun a => by fin_cases a <;> decide) (fun a => by fin_cases a <;> decide) _
theorem whole3 (c : Dev nD) : ewS m c = m ((c : Thread nD τ).loc main_arg3) :=
  Memref.read_access_unit_zero (Elt F) main_arg3 (funext fun a => by fin_cases a <;> decide) (fun a => by fin_cases a <;> decide) _
theorem whole4 (c : Dev nD) : swS m c = m ((c : Thread nD τ).loc main_arg4) :=
  Memref.read_access_unit_zero (Elt F) main_arg4 (funext fun a => by fin_cases a <;> decide) (fun a => by fin_cases a <;> decide) _
theorem whole5 (f : main_v1.ty.Contents (Elt F)) : (win0_5.blk (0 : Fin 1)).view.read (Elt F) f = f :=
  Memref.read_access_unit_zero (Elt F) main_v1 (funext fun a => by fin_cases a <;> decide) (fun a => by fin_cases a <;> decide) _

end Cert.MoE

end

end
-- ==== Proof.Value.lean ====
module

public import proofs.«01_k».proof.Defs
public import proofs.«01_k».proof.Proof.Gen.KernelIdeal
public import proofs.«01_k».proof.Proof.Run
public import proofs.«01_k».proof.Proof.Agree
public import proofs.«01_k».proof.Proof.Capacity
public import proofs.«01_k».proof.Proof.Whole

/-!
The value claim: within capacity, each device's result is its block of the reference's.
-/

@[expose] public section

noncomputable section

namespace Cert.MoE

open Cert.KernelIdeal Cert.KernelIdeal.Gen
open Idealize.ShloMosaic Idealize.ShloMosaic.TcCoe Idealize.SL.Sem

/-- Of an array cut by rows, device `c`'s row `t` is the row `512 c + t`. -/
theorem block_row {α : Type} {n : ℕ} (c : Fin 8) (v : (⟨2, ![4096, n]⟩ : Shape).Idx → α)
    (hT : Layout.Tiles ⟨2, ![512, n]⟩ ⟨2, ![4096, n]⟩ 0 8) (t : Fin 512) (j : Fin n) :
    Layout.block ⟨2, ![512, n]⟩ ⟨2, ![4096, n]⟩ 0 8 c v hT (ix2 t j) = v (ix2 (row c t) j) := by
  refine congrArg v (funext fun b => Fin.ext ?_)
  match b with
  | ⟨0, _⟩ => rfl
  | ⟨1, _⟩ => rfl

/-- Of the experts' weights, device `c`'s expert `k` is the expert `2 c + k`. -/
theorem block_expert {α : Type} (c : Fin 8) (v : (⟨3, ![16, 256, 512]⟩ : Shape).Idx → α)
    (hT : Layout.Tiles ⟨3, ![2, 256, 512]⟩ ⟨3, ![16, 256, 512]⟩ 0 8) (k : Fin 2) (j : Fin 256) (h : Fin 512) :
    Layout.block ⟨3, ![2, 256, 512]⟩ ⟨3, ![16, 256, 512]⟩ 0 8 c v hT (ix3 k j h) = v (ix3 (nth c k) j h) := by
  refine congrArg v (funext fun b => Fin.ext ?_)
  match b with
  | ⟨0, _⟩ => rfl
  | ⟨1, _⟩ => rfl
  | ⟨2, _⟩ => rfl

/-- The precondition, of the values a device reads. -/
theorem within [Cert.Pre_within_capacity_KernelIdeal.Facts] {m : (ℓ : Loc nD τ sig) → Buf (Elt Ideal) ℓ}
    (h : Cert.Pre_KernelIdeal_within_capacity_KernelIdeal m) (c : Dev nD) : Within m c := by
  intro e
  have : routeOf m c = fun t => m ((c : Thread nD τ).loc main_arg2) (ix2 t (0 : Fin 1)) :=
    funext fun t => congrFun (whole2 m c) _
  rw [this]
  exact capacity_read (h c) e

/-- The kernel's result on every device is its block of the reference's result. -/
theorem algebraic [Cert.Pre_within_capacity_KernelIdeal.Facts] :
    Cert.algebraic_KernelIdeal_ReferenceIdeal_pre_within_capacity_KernelIdeal := by
  intro m g m' g' hpre hm
  have P : Parts m m' := by
    refine ⟨fun c t j => ?_, fun c j e => ?_, fun c t => ?_, fun d k j h => ?_, fun c j h => ?_⟩
    · unfold tokenOf; rw [whole0, (hm c).1]; exact block_row c _ _ t j
    · unfold gateOf; rw [whole1, (hm c).2.1]; rfl
    · unfold routeOf; rw [whole2, (hm c).2.2.1]; exact block_row c _ _ t 0
    · unfold expertW; rw [whole3, (hm d).2.2.2.1]; exact block_expert d _ _ k j h
    · rw [whole4, (hm c).2.2.2.2]; rfl
  refine ⟨Cert.ReferenceIdeal.Value.res_main_v41 (F := Ideal) m' 0,
    (θ_run Cert.KernelIdeal.defs _ _).mono (fun r h c => ⟨?_, (h.1 c).2⟩) (run_ends (F := Ideal) m g),
    (θ_run Cert.ReferenceIdeal.defs _ _).mono (fun r h => h 0) (Cert.ReferenceIdeal.Value.run (F := Ideal) m' g')⟩
  refine ((whole5 _).symm.trans (h.1 c).1).trans (funext fun i => ?_)
  obtain ⟨t, j, rfl⟩ : ∃ t j, i = ix2 t j := ⟨i 0, i 1, funext fun b => by
    match b with
    | ⟨0, _⟩ => rfl
    | ⟨1, _⟩ => rfl⟩
  exact (out_eq P (within hpre c) t j).trans (block_row c _ _ t j).symm

end Cert.MoE

end

end
-- ==== Proof.lean ====
/- The certificate's claims, each from the run of its program. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_within_capacity_KernelIdeal
public import proofs.«01_k».proof.Proof.Gen.Pre_within_capacity_ReferenceIdeal
public import proofs.«01_k».proof.Proof.Run
public import proofs.«01_k».proof.Proof.Same
public import proofs.«01_k».proof.Proof.Value

@[expose] public section

noncomputable section

namespace Cert.Proof

open Idealize.ShloMosaic Idealize.SL.Sem

/-- The run of the kernel over any float values, with the result dropped: the arguments are unchanged and every
    semaphore counter is back at zero. -/
theorem frame_run {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
          = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
          = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4)
          = m ((c.tc : Thread Cert.KernelIdeal.nD Cert.KernelIdeal.τ).loc Cert.KernelIdeal.main_arg4))
        ∧ r.2.sem = fun _ => 0) :=
  (θ_run Cert.KernelIdeal.defs _ _).mono (fun _ h => ⟨fun c => (h.1 c).2, h.2⟩) (Cert.MoE.run_ends (F := F) m ρ)

theorem frame_ideal : Cert.quiescent_KernelIdeal := fun m ρ _ => frame_run (F := Ideal) m ρ

/-- The kernel as printed has the same text: its run is the same run, over words. -/
theorem frame_kernel : Cert.quiescent_Kernel := fun m ρ _ => by
  rw [Cert.MoE.defs_eq]
  exact frame_run (F := Bits) m ρ

/-- The reference's run, with the result dropped; it declares no semaphore. -/
theorem frame_ref : Cert.quiescent_ReferenceIdeal := fun m ρ _ =>
  (θ_run (Cert.ReferenceIdeal.defs (F := Ideal)) _ _).mono (fun r h => ⟨fun c => (h c).2, sem_eq_zero_of_no_sems (by decide) r.2⟩)
    (Cert.ReferenceIdeal.Value.run (F := Ideal) m ρ)

/-- The claims: every run ends with the arguments unchanged, and within capacity the kernel's results are the reference's. -/
theorem claim : Cert.Claim := ⟨Cert.Kernel.Gen.facts, Cert.KernelIdeal.Gen.facts, Cert.ReferenceIdeal.Gen.facts,
  Cert.Pre_within_capacity_KernelIdeal.Gen.facts, Cert.Pre_within_capacity_ReferenceIdeal.Gen.facts,
  frame_kernel, frame_ideal, fun m ρ _ => frame_ideal m ρ trivial, frame_ref, fun m ρ _ => frame_ref m ρ trivial,
  trivial, Cert.MoE.algebraic⟩

end Cert.Proof

end
